-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 4096]⟩ ⟨2, ![1024, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S128x4096 : Shape := ⟨2, ![128, 4096]⟩
abbrev S7x128x1408 : Shape := ⟨3, ![7, 128, 1408]⟩
abbrev S7x128x1280 : Shape := ⟨3, ![7, 128, 1280]⟩
abbrev S7 : Shape := ⟨1, ![7]⟩
abbrev S_ : Shape := ⟨0, ![]⟩
abbrev S1024x128 : Shape := ⟨2, ![1024, 128]⟩
abbrev S1024x1408 : Shape := ⟨2, ![1024, 1408]⟩
abbrev S128x1408 : Shape := ⟨2, ![128, 1408]⟩
abbrev S1 : Shape := ⟨1, ![1]⟩
abbrev S1x128x1408 : Shape := ⟨3, ![1, 128, 1408]⟩
abbrev S1024x1280 : Shape := ⟨2, ![1024, 1280]⟩
abbrev S128x1280 : Shape := ⟨2, ![128, 1280]⟩
abbrev S1x128x1280 : Shape := ⟨3, ![1, 128, 1280]⟩

abbrev nBuf : Space → Nat
  | .hbm => 3
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S128x4096, .f32⟩
  | .local _ .vmem, ⟨0, _⟩ => ⟨S1024x1024, .bf16⟩
  | .local _ .vmem, ⟨1, _⟩ => ⟨S1024x4096, .bf16⟩
  | .local _ .vmem, ⟨2, _⟩ => ⟨S128x4096, .f32⟩
  | .local _ .vmem, ⟨3, _⟩ => ⟨S1024x4096, .bf16⟩
  | .local _ .vmem, ⟨4, _⟩ => ⟨S7x128x1408, .bf16⟩
  | .local _ .vmem, ⟨5, _⟩ => ⟨S7x128x1408, .bf16⟩
  | .local _ .vmem, ⟨6, _⟩ => ⟨S7x128x1280, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_41 : BitVec 32 := 1#32
  let v85 : BitVec 32 := Scalar.muli v51 c1_i32_41
  let v86 : BitVec 32 := Scalar.addi c0_i32_42 v85
  v86.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_44 : BitVec 32 := 1#32
  let v87 : BitVec 32 := Scalar.muli v67 c1_i32_44
  let v88 : BitVec 32 := Scalar.addi c0_i32_45 v87
  v88.toNat
def k0_dev3 (d0 : Dev nD) : Nat :=
  let c0_i32_48 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_47 : BitVec 32 := 1#32
  let v89 : BitVec 32 := Scalar.muli v83 c1_i32_47
  let v90 : BitVec 32 := Scalar.addi c0_i32_48 v89
  v90.toNat
def k0_off1 (d0 : Dev nD) : Fin 2 → Nat :=
  let c0 : Index := 0#32
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v93 : BitVec 32 := Scalar.subi c1_i32_51 v35
  let c4_i32_52 : BitVec 32 := 4#32
  let v94 : BitVec 32 := Scalar.muli v93 c4_i32_52
  let c1_i32_50 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v92 : BitVec 32 := Scalar.subi c1_i32_50 v18
  let c2_i32_53 : BitVec 32 := 2#32
  let v95 : BitVec 32 := Scalar.muli v92 c2_i32_53
  let v96 : BitVec 32 := Scalar.addi v94 v95
  let c1_i32_49 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v91 : BitVec 32 := Scalar.subi c1_i32_49 v16
  let v97 : BitVec 32 := Scalar.addi v91 v92
  let c2_i32_54 : BitVec 32 := 2#32
  let c0_i32_55 : BitVec 32 := 0#32
  let v98 : BitVec 1 := Scalar.cmpi .eq c2_i32_54 c0_i32_55
  let c1_i32_56 : BitVec 32 := 1#32
  let v99 : BitVec 32 := Scalar.select v98 c1_i32_56 c2_i32_54
  let v100 : BitVec 32 := Scalar.remsi v97 v99
  let c0_i32_58 : BitVec 32 := 0#32
  let v102 : BitVec 1 := Scalar.cmpi .slt v100 c0_i32_58
  let c0_i32_59 : BitVec 32 := 0#32
  let v103 : BitVec 1 := Scalar.cmpi .slt v99 c0_i32_59
  let v104 : BitVec 1 := Scalar.xori v102 v103
  let c0_i32_57 : BitVec 32 := 0#32
  let v101 : BitVec 1 := Scalar.cmpi .ne v100 c0_i32_57
  let v105 : BitVec 1 := Scalar.andi v104 v101
  let v106 : BitVec 32 := Scalar.addi v100 v99
  let v107 : BitVec 32 := Scalar.select v105 v106 v100
  let v108 : BitVec 32 := Scalar.addi v96 v107
  let c128_i32 : BitVec 32 := 128#32
  let v109 : BitVec 32 := Scalar.muli v108 c128_i32
  let v110 : Index := Scalar.indexCast v109
  ![0, v110.toNat]
def k0_off2 (d0 : Dev nD) : Fin 2 → Nat :=
  let c1_i32_51 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v93 : BitVec 32 := Scalar.subi c1_i32_51 v35
  let c4_i32_52 : BitVec 32 := 4#32
  let v94 : BitVec 32 := Scalar.muli v93 c4_i32_52
  let c1_i32_50 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v92 : BitVec 32 := Scalar.subi c1_i32_50 v18
  let c2_i32_53 : BitVec 32 := 2#32
  let v95 : BitVec 32 := Scalar.muli v92 c2_i32_53
  let v96 : BitVec 32 := Scalar.addi v94 v95
  let c1_i32_49 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v91 : BitVec 32 := Scalar.subi c1_i32_49 v16
  let v97 : BitVec 32 := Scalar.addi v91 v92
  let c2_i32_54 : BitVec 32 := 2#32
  let c0_i32_55 : BitVec 32 := 0#32
  let v98 : BitVec 1 := Scalar.cmpi .eq c2_i32_54 c0_i32_55
  let c1_i32_56 : BitVec 32 := 1#32
  let v99 : BitVec 32 := Scalar.select v98 c1_i32_56 c2_i32_54
  let v100 : BitVec 32 := Scalar.remsi v97 v99
  let c0_i32_58 : BitVec 32 := 0#32
  let v102 : BitVec 1 := Scalar.cmpi .slt v100 c0_i32_58
  let c0_i32_59 : BitVec 32 := 0#32
  let v103 : BitVec 1 := Scalar.cmpi .slt v99 c0_i32_59
  let v104 : BitVec 1 := Scalar.xori v102 v103
  let c0_i32_57 : BitVec 32 := 0#32
  let v101 : BitVec 1 := Scalar.cmpi .ne v100 c0_i32_57
  let v105 : BitVec 1 := Scalar.andi v104 v101
  let v106 : BitVec 32 := Scalar.addi v100 v99
  let v107 : BitVec 32 := Scalar.select v105 v106 v100
  let v108 : BitVec 32 := Scalar.addi v96 v107
  let c128_i32_62 : BitVec 32 := 128#32
  let v117 : BitVec 32 := Scalar.muli v108 c128_i32_62
  let v118 : Index := Scalar.indexCast v117
  let c0_63 : Index := 0#32
  ![v118.toNat, 0]
def k0_off3 (d0 : Dev nD) : Fin 2 → Nat :=
  let c1_i32_66 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v124 : BitVec 32 := Scalar.subi c1_i32_66 v35
  let c4_i32_67 : BitVec 32 := 4#32
  let v125 : BitVec 32 := Scalar.muli v124 c4_i32_67
  let c1_i32_65 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v123 : BitVec 32 := Scalar.subi c1_i32_65 v18
  let c2_i32_68 : BitVec 32 := 2#32
  let v126 : BitVec 32 := Scalar.muli v123 c2_i32_68
  let v127 : BitVec 32 := Scalar.addi v125 v126
  let c1_i32_64 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v122 : BitVec 32 := Scalar.subi c1_i32_64 v16
  let v128 : BitVec 32 := Scalar.addi v122 v123
  let c2_i32_69 : BitVec 32 := 2#32
  let c0_i32_70 : BitVec 32 := 0#32
  let v129 : BitVec 1 := Scalar.cmpi .eq c2_i32_69 c0_i32_70
  let c1_i32_71 : BitVec 32 := 1#32
  let v130 : BitVec 32 := Scalar.select v129 c1_i32_71 c2_i32_69
  let v131 : BitVec 32 := Scalar.remsi v128 v130
  let c0_i32_73 : BitVec 32 := 0#32
  let v133 : BitVec 1 := Scalar.cmpi .slt v131 c0_i32_73
  let c0_i32_74 : BitVec 32 := 0#32
  let v134 : BitVec 1 := Scalar.cmpi .slt v130 c0_i32_74
  let v135 : BitVec 1 := Scalar.xori v133 v134
  let c0_i32_72 : BitVec 32 := 0#32
  let v132 : BitVec 1 := Scalar.cmpi .ne v131 c0_i32_72
  let v136 : BitVec 1 := Scalar.andi v135 v132
  let v137 : BitVec 32 := Scalar.addi v131 v130
  let v138 : BitVec 32 := Scalar.select v136 v137 v131
  let v139 : BitVec 32 := Scalar.addi v127 v138
  let c128_i32_75 : BitVec 32 := 128#32
  let v140 : BitVec 32 := Scalar.muli v139 c128_i32_75
  let c0_i32_83 : BitVec 32 := 0#32
  ![v140.toNat, 0]
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_79 : BitVec 32 := 1#32
  let v141 : BitVec 32 := Scalar.muli v51 c1_i32_79
  let v142 : BitVec 32 := Scalar.addi c0_i32_80 v141
  v142.toNat
def k0_off4 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v151 : BitVec 32 := Scalar.subi c1_i32_85 v35
  let c4_i32_87 : BitVec 32 := 4#32
  let v153 : BitVec 32 := Scalar.muli v151 c4_i32_87
  let c1_i32_84 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v150 : BitVec 32 := Scalar.subi c1_i32_84 v18
  let c2_i32_88 : BitVec 32 := 2#32
  let v154 : BitVec 32 := Scalar.muli v150 c2_i32_88
  let v155 : BitVec 32 := Scalar.addi v153 v154
  let c1_i32_86 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v152 : BitVec 32 := Scalar.subi c1_i32_86 v16
  let v156 : BitVec 32 := Scalar.addi v152 v150
  let c2_i32_89 : BitVec 32 := 2#32
  let c0_i32_90 : BitVec 32 := 0#32
  let v157 : BitVec 1 := Scalar.cmpi .eq c2_i32_89 c0_i32_90
  let c1_i32_91 : BitVec 32 := 1#32
  let v158 : BitVec 32 := Scalar.select v157 c1_i32_91 c2_i32_89
  let v159 : BitVec 32 := Scalar.remsi v156 v158
  let c0_i32_93 : BitVec 32 := 0#32
  let v161 : BitVec 1 := Scalar.cmpi .slt v159 c0_i32_93
  let c0_i32_94 : BitVec 32 := 0#32
  let v162 : BitVec 1 := Scalar.cmpi .slt v158 c0_i32_94
  let v163 : BitVec 1 := Scalar.xori v161 v162
  let c0_i32_92 : BitVec 32 := 0#32
  let v160 : BitVec 1 := Scalar.cmpi .ne v159 c0_i32_92
  let v164 : BitVec 1 := Scalar.andi v163 v160
  let v165 : BitVec 32 := Scalar.addi v159 v158
  let v166 : BitVec 32 := Scalar.select v164 v165 v159
  let v167 : BitVec 32 := Scalar.addi v155 v166
  let c128_i32_99 : BitVec 32 := 128#32
  let v176 : BitVec 32 := Scalar.muli v167 c128_i32_99
  let v177 : Index := Scalar.indexCast v176
  let c1408_100 : Index := 1408#32
  ![v177.toNat, 1408]
def k0_off5 (d0 : Dev nD) : Fin 2 → Nat :=
  let c1_i32_102 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v182 : BitVec 32 := Scalar.subi c1_i32_102 v35
  let c4_i32_104 : BitVec 32 := 4#32
  let v184 : BitVec 32 := Scalar.muli v182 c4_i32_104
  let c1_i32_101 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v181 : BitVec 32 := Scalar.subi c1_i32_101 v18
  let c2_i32_105 : BitVec 32 := 2#32
  let v185 : BitVec 32 := Scalar.muli v181 c2_i32_105
  let v186 : BitVec 32 := Scalar.addi v184 v185
  let c1_i32_103 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v183 : BitVec 32 := Scalar.subi c1_i32_103 v16
  let v187 : BitVec 32 := Scalar.addi v183 v181
  let c2_i32_106 : BitVec 32 := 2#32
  let c0_i32_107 : BitVec 32 := 0#32
  let v188 : BitVec 1 := Scalar.cmpi .eq c2_i32_106 c0_i32_107
  let c1_i32_108 : BitVec 32 := 1#32
  let v189 : BitVec 32 := Scalar.select v188 c1_i32_108 c2_i32_106
  let v190 : BitVec 32 := Scalar.remsi v187 v189
  let c0_i32_110 : BitVec 32 := 0#32
  let v192 : BitVec 1 := Scalar.cmpi .slt v190 c0_i32_110
  let c0_i32_111 : BitVec 32 := 0#32
  let v193 : BitVec 1 := Scalar.cmpi .slt v189 c0_i32_111
  let v194 : BitVec 1 := Scalar.xori v192 v193
  let c0_i32_109 : BitVec 32 := 0#32
  let v191 : BitVec 1 := Scalar.cmpi .ne v190 c0_i32_109
  let v195 : BitVec 1 := Scalar.andi v194 v191
  let v196 : BitVec 32 := Scalar.addi v190 v189
  let v197 : BitVec 32 := Scalar.select v195 v196 v190
  let v198 : BitVec 32 := Scalar.addi v186 v197
  let c128_i32_112 : BitVec 32 := 128#32
  let v199 : BitVec 32 := Scalar.muli v198 c128_i32_112
  let c1408_i32 : BitVec 32 := 1408#32
  ![v199.toNat, 1408]
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_116 : BitVec 32 := 1#32
  let v200 : BitVec 32 := Scalar.muli v67 c1_i32_116
  let v201 : BitVec 32 := Scalar.addi c0_i32_117 v200
  v201.toNat
def k0_off6 (d0 : Dev nD) : Fin 2 → Nat :=
  let c1_i32_120 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v209 : BitVec 32 := Scalar.subi c1_i32_120 v35
  let c4_i32_123 : BitVec 32 := 4#32
  let v212 : BitVec 32 := Scalar.muli v209 c4_i32_123
  let c1_i32_122 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v211 : BitVec 32 := Scalar.subi c1_i32_122 v18
  let c2_i32_124 : BitVec 32 := 2#32
  let v213 : BitVec 32 := Scalar.muli v211 c2_i32_124
  let v214 : BitVec 32 := Scalar.addi v212 v213
  let c1_i32_121 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v210 : BitVec 32 := Scalar.subi c1_i32_121 v16
  let v215 : BitVec 32 := Scalar.addi v210 v211
  let c2_i32_125 : BitVec 32 := 2#32
  let c0_i32_126 : BitVec 32 := 0#32
  let v216 : BitVec 1 := Scalar.cmpi .eq c2_i32_125 c0_i32_126
  let c1_i32_127 : BitVec 32 := 1#32
  let v217 : BitVec 32 := Scalar.select v216 c1_i32_127 c2_i32_125
  let v218 : BitVec 32 := Scalar.remsi v215 v217
  let c0_i32_129 : BitVec 32 := 0#32
  let v220 : BitVec 1 := Scalar.cmpi .slt v218 c0_i32_129
  let c0_i32_130 : BitVec 32 := 0#32
  let v221 : BitVec 1 := Scalar.cmpi .slt v217 c0_i32_130
  let v222 : BitVec 1 := Scalar.xori v220 v221
  let c0_i32_128 : BitVec 32 := 0#32
  let v219 : BitVec 1 := Scalar.cmpi .ne v218 c0_i32_128
  let v223 : BitVec 1 := Scalar.andi v222 v219
  let v224 : BitVec 32 := Scalar.addi v218 v217
  let v225 : BitVec 32 := Scalar.select v223 v224 v218
  let v226 : BitVec 32 := Scalar.addi v214 v225
  let c128_i32_135 : BitVec 32 := 128#32
  let v235 : BitVec 32 := Scalar.muli v226 c128_i32_135
  let v236 : Index := Scalar.indexCast v235
  let c2816_136 : Index := 2816#32
  ![v236.toNat, 2816]
def k0_off7 (d0 : Dev nD) : Fin 2 → Nat :=
  let c1_i32_137 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v240 : BitVec 32 := Scalar.subi c1_i32_137 v35
  let c4_i32_140 : BitVec 32 := 4#32
  let v243 : BitVec 32 := Scalar.muli v240 c4_i32_140
  let c1_i32_139 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v242 : BitVec 32 := Scalar.subi c1_i32_139 v18
  let c2_i32_141 : BitVec 32 := 2#32
  let v244 : BitVec 32 := Scalar.muli v242 c2_i32_141
  let v245 : BitVec 32 := Scalar.addi v243 v244
  let c1_i32_138 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v241 : BitVec 32 := Scalar.subi c1_i32_138 v16
  let v246 : BitVec 32 := Scalar.addi v241 v242
  let c2_i32_142 : BitVec 32 := 2#32
  let c0_i32_143 : BitVec 32 := 0#32
  let v247 : BitVec 1 := Scalar.cmpi .eq c2_i32_142 c0_i32_143
  let c1_i32_144 : BitVec 32 := 1#32
  let v248 : BitVec 32 := Scalar.select v247 c1_i32_144 c2_i32_142
  let v249 : BitVec 32 := Scalar.remsi v246 v248
  let c0_i32_146 : BitVec 32 := 0#32
  let v251 : BitVec 1 := Scalar.cmpi .slt v249 c0_i32_146
  let c0_i32_147 : BitVec 32 := 0#32
  let v252 : BitVec 1 := Scalar.cmpi .slt v248 c0_i32_147
  let v253 : BitVec 1 := Scalar.xori v251 v252
  let c0_i32_145 : BitVec 32 := 0#32
  let v250 : BitVec 1 := Scalar.cmpi .ne v249 c0_i32_145
  let v254 : BitVec 1 := Scalar.andi v253 v250
  let v255 : BitVec 32 := Scalar.addi v249 v248
  let v256 : BitVec 32 := Scalar.select v254 v255 v249
  let v257 : BitVec 32 := Scalar.addi v245 v256
  let c128_i32_148 : BitVec 32 := 128#32
  let v258 : BitVec 32 := Scalar.muli v257 c128_i32_148
  let c2816_i32 : BitVec 32 := 2816#32
  ![v258.toNat, 2816]
def k0_dev6 (d0 : Dev nD) : Nat :=
  let c0_i32_153 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_152 : BitVec 32 := 1#32
  let v259 : BitVec 32 := Scalar.muli v83 c1_i32_152
  let v260 : BitVec 32 := Scalar.addi c0_i32_153 v259
  v260.toNat
def k0_off8 (d0 : Dev nD) : Fin 2 → Nat :=
  let c0_167 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_158 : BitVec 32 := 4#32
  let v270 : BitVec 32 := Scalar.muli v35 c4_i32_158
  let c1_i32_157 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v269 : BitVec 32 := Scalar.subi c1_i32_157 v18
  let c2_i32_159 : BitVec 32 := 2#32
  let v271 : BitVec 32 := Scalar.muli v269 c2_i32_159
  let v272 : BitVec 32 := Scalar.addi v270 v271
  let c1_i32_156 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v268 : BitVec 32 := Scalar.subi c1_i32_156 v16
  let v273 : BitVec 32 := Scalar.addi v268 v269
  let c2_i32_160 : BitVec 32 := 2#32
  let c0_i32_161 : BitVec 32 := 0#32
  let v274 : BitVec 1 := Scalar.cmpi .eq c2_i32_160 c0_i32_161
  let c1_i32_162 : BitVec 32 := 1#32
  let v275 : BitVec 32 := Scalar.select v274 c1_i32_162 c2_i32_160
  let v276 : BitVec 32 := Scalar.remsi v273 v275
  let c0_i32_164 : BitVec 32 := 0#32
  let v278 : BitVec 1 := Scalar.cmpi .slt v276 c0_i32_164
  let c0_i32_165 : BitVec 32 := 0#32
  let v279 : BitVec 1 := Scalar.cmpi .slt v275 c0_i32_165
  let v280 : BitVec 1 := Scalar.xori v278 v279
  let c0_i32_163 : BitVec 32 := 0#32
  let v277 : BitVec 1 := Scalar.cmpi .ne v276 c0_i32_163
  let v281 : BitVec 1 := Scalar.andi v280 v277
  let v282 : BitVec 32 := Scalar.addi v276 v275
  let v283 : BitVec 32 := Scalar.select v281 v282 v276
  let v284 : BitVec 32 := Scalar.addi v272 v283
  let c128_i32_166 : BitVec 32 := 128#32
  let v285 : BitVec 32 := Scalar.muli v284 c128_i32_166
  let v286 : Index := Scalar.indexCast v285
  ![0, v286.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_158 : BitVec 32 := 4#32
  let v270 : BitVec 32 := Scalar.muli v35 c4_i32_158
  let c1_i32_157 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v269 : BitVec 32 := Scalar.subi c1_i32_157 v18
  let c2_i32_159 : BitVec 32 := 2#32
  let v271 : BitVec 32 := Scalar.muli v269 c2_i32_159
  let v272 : BitVec 32 := Scalar.addi v270 v271
  let c1_i32_156 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v268 : BitVec 32 := Scalar.subi c1_i32_156 v16
  let v273 : BitVec 32 := Scalar.addi v268 v269
  let c2_i32_160 : BitVec 32 := 2#32
  let c0_i32_161 : BitVec 32 := 0#32
  let v274 : BitVec 1 := Scalar.cmpi .eq c2_i32_160 c0_i32_161
  let c1_i32_162 : BitVec 32 := 1#32
  let v275 : BitVec 32 := Scalar.select v274 c1_i32_162 c2_i32_160
  let v276 : BitVec 32 := Scalar.remsi v273 v275
  let c0_i32_164 : BitVec 32 := 0#32
  let v278 : BitVec 1 := Scalar.cmpi .slt v276 c0_i32_164
  let c0_i32_165 : BitVec 32 := 0#32
  let v279 : BitVec 1 := Scalar.cmpi .slt v275 c0_i32_165
  let v280 : BitVec 1 := Scalar.xori v278 v279
  let c0_i32_163 : BitVec 32 := 0#32
  let v277 : BitVec 1 := Scalar.cmpi .ne v276 c0_i32_163
  let v281 : BitVec 1 := Scalar.andi v280 v277
  let v282 : BitVec 32 := Scalar.addi v276 v275
  let v283 : BitVec 32 := Scalar.select v281 v282 v276
  let v284 : BitVec 32 := Scalar.addi v272 v283
  let c128_i32_171 : BitVec 32 := 128#32
  let v293 : BitVec 32 := Scalar.muli v284 c128_i32_171
  let v294 : Index := Scalar.indexCast v293
  let c0_172 : Index := 0#32
  ![v294.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_175 : BitVec 32 := 4#32
  let v300 : BitVec 32 := Scalar.muli v35 c4_i32_175
  let c1_i32_174 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v299 : BitVec 32 := Scalar.subi c1_i32_174 v18
  let c2_i32_176 : BitVec 32 := 2#32
  let v301 : BitVec 32 := Scalar.muli v299 c2_i32_176
  let v302 : BitVec 32 := Scalar.addi v300 v301
  let c1_i32_173 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v298 : BitVec 32 := Scalar.subi c1_i32_173 v16
  let v303 : BitVec 32 := Scalar.addi v298 v299
  let c2_i32_177 : BitVec 32 := 2#32
  let c0_i32_178 : BitVec 32 := 0#32
  let v304 : BitVec 1 := Scalar.cmpi .eq c2_i32_177 c0_i32_178
  let c1_i32_179 : BitVec 32 := 1#32
  let v305 : BitVec 32 := Scalar.select v304 c1_i32_179 c2_i32_177
  let v306 : BitVec 32 := Scalar.remsi v303 v305
  let c0_i32_181 : BitVec 32 := 0#32
  let v308 : BitVec 1 := Scalar.cmpi .slt v306 c0_i32_181
  let c0_i32_182 : BitVec 32 := 0#32
  let v309 : BitVec 1 := Scalar.cmpi .slt v305 c0_i32_182
  let v310 : BitVec 1 := Scalar.xori v308 v309
  let c0_i32_180 : BitVec 32 := 0#32
  let v307 : BitVec 1 := Scalar.cmpi .ne v306 c0_i32_180
  let v311 : BitVec 1 := Scalar.andi v310 v307
  let v312 : BitVec 32 := Scalar.addi v306 v305
  let v313 : BitVec 32 := Scalar.select v311 v312 v306
  let v314 : BitVec 32 := Scalar.addi v302 v313
  let c128_i32_183 : BitVec 32 := 128#32
  let v315 : BitVec 32 := Scalar.muli v314 c128_i32_183
  let c0_i32_191 : BitVec 32 := 0#32
  ![v315.toNat, 0]
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_187 : BitVec 32 := 1#32
  let v316 : BitVec 32 := Scalar.muli v51 c1_i32_187
  let v317 : BitVec 32 := Scalar.addi c0_i32_188 v316
  v317.toNat
def k0_off11 (d0 : Dev nD) : Fin 2 → Nat :=
  let c0_203 : Index := 0#32
  let c1_i32_193 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v326 : BitVec 32 := Scalar.subi c1_i32_193 v35
  let c4_i32_194 : BitVec 32 := 4#32
  let v327 : BitVec 32 := Scalar.muli v326 c4_i32_194
  let c1_i32_192 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v325 : BitVec 32 := Scalar.subi c1_i32_192 v18
  let c2_i32_195 : BitVec 32 := 2#32
  let v328 : BitVec 32 := Scalar.muli v325 c2_i32_195
  let v329 : BitVec 32 := Scalar.addi v327 v328
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v330 : BitVec 32 := Scalar.addi v16 v325
  let c2_i32_196 : BitVec 32 := 2#32
  let c0_i32_197 : BitVec 32 := 0#32
  let v331 : BitVec 1 := Scalar.cmpi .eq c2_i32_196 c0_i32_197
  let c1_i32_198 : BitVec 32 := 1#32
  let v332 : BitVec 32 := Scalar.select v331 c1_i32_198 c2_i32_196
  let v333 : BitVec 32 := Scalar.remsi v330 v332
  let c0_i32_200 : BitVec 32 := 0#32
  let v335 : BitVec 1 := Scalar.cmpi .slt v333 c0_i32_200
  let c0_i32_201 : BitVec 32 := 0#32
  let v336 : BitVec 1 := Scalar.cmpi .slt v332 c0_i32_201
  let v337 : BitVec 1 := Scalar.xori v335 v336
  let c0_i32_199 : BitVec 32 := 0#32
  let v334 : BitVec 1 := Scalar.cmpi .ne v333 c0_i32_199
  let v338 : BitVec 1 := Scalar.andi v337 v334
  let v339 : BitVec 32 := Scalar.addi v333 v332
  let v340 : BitVec 32 := Scalar.select v338 v339 v333
  let v341 : BitVec 32 := Scalar.addi v329 v340
  let c128_i32_202 : BitVec 32 := 128#32
  let v342 : BitVec 32 := Scalar.muli v341 c128_i32_202
  let v343 : Index := Scalar.indexCast v342
  ![0, v343.toNat]
def k0_off12 (d0 : Dev nD) : Fin 2 → Nat :=
  let c1_i32_193 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v326 : BitVec 32 := Scalar.subi c1_i32_193 v35
  let c4_i32_194 : BitVec 32 := 4#32
  let v327 : BitVec 32 := Scalar.muli v326 c4_i32_194
  let c1_i32_192 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v325 : BitVec 32 := Scalar.subi c1_i32_192 v18
  let c2_i32_195 : BitVec 32 := 2#32
  let v328 : BitVec 32 := Scalar.muli v325 c2_i32_195
  let v329 : BitVec 32 := Scalar.addi v327 v328
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v330 : BitVec 32 := Scalar.addi v16 v325
  let c2_i32_196 : BitVec 32 := 2#32
  let c0_i32_197 : BitVec 32 := 0#32
  let v331 : BitVec 1 := Scalar.cmpi .eq c2_i32_196 c0_i32_197
  let c1_i32_198 : BitVec 32 := 1#32
  let v332 : BitVec 32 := Scalar.select v331 c1_i32_198 c2_i32_196
  let v333 : BitVec 32 := Scalar.remsi v330 v332
  let c0_i32_200 : BitVec 32 := 0#32
  let v335 : BitVec 1 := Scalar.cmpi .slt v333 c0_i32_200
  let c0_i32_201 : BitVec 32 := 0#32
  let v336 : BitVec 1 := Scalar.cmpi .slt v332 c0_i32_201
  let v337 : BitVec 1 := Scalar.xori v335 v336
  let c0_i32_199 : BitVec 32 := 0#32
  let v334 : BitVec 1 := Scalar.cmpi .ne v333 c0_i32_199
  let v338 : BitVec 1 := Scalar.andi v337 v334
  let v339 : BitVec 32 := Scalar.addi v333 v332
  let v340 : BitVec 32 := Scalar.select v338 v339 v333
  let v341 : BitVec 32 := Scalar.addi v329 v340
  let c128_i32_207 : BitVec 32 := 128#32
  let v350 : BitVec 32 := Scalar.muli v341 c128_i32_207
  let v351 : Index := Scalar.indexCast v350
  let c1408_208 : Index := 1408#32
  ![v351.toNat, 1408]
def k0_off13 (d0 : Dev nD) : Fin 2 → Nat :=
  let c1_i32_210 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v356 : BitVec 32 := Scalar.subi c1_i32_210 v35
  let c4_i32_211 : BitVec 32 := 4#32
  let v357 : BitVec 32 := Scalar.muli v356 c4_i32_211
  let c1_i32_209 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v355 : BitVec 32 := Scalar.subi c1_i32_209 v18
  let c2_i32_212 : BitVec 32 := 2#32
  let v358 : BitVec 32 := Scalar.muli v355 c2_i32_212
  let v359 : BitVec 32 := Scalar.addi v357 v358
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v360 : BitVec 32 := Scalar.addi v16 v355
  let c2_i32_213 : BitVec 32 := 2#32
  let c0_i32_214 : BitVec 32 := 0#32
  let v361 : BitVec 1 := Scalar.cmpi .eq c2_i32_213 c0_i32_214
  let c1_i32_215 : BitVec 32 := 1#32
  let v362 : BitVec 32 := Scalar.select v361 c1_i32_215 c2_i32_213
  let v363 : BitVec 32 := Scalar.remsi v360 v362
  let c0_i32_217 : BitVec 32 := 0#32
  let v365 : BitVec 1 := Scalar.cmpi .slt v363 c0_i32_217
  let c0_i32_218 : BitVec 32 := 0#32
  let v366 : BitVec 1 := Scalar.cmpi .slt v362 c0_i32_218
  let v367 : BitVec 1 := Scalar.xori v365 v366
  let c0_i32_216 : BitVec 32 := 0#32
  let v364 : BitVec 1 := Scalar.cmpi .ne v363 c0_i32_216
  let v368 : BitVec 1 := Scalar.andi v367 v364
  let v369 : BitVec 32 := Scalar.addi v363 v362
  let v370 : BitVec 32 := Scalar.select v368 v369 v363
  let v371 : BitVec 32 := Scalar.addi v359 v370
  let c128_i32_219 : BitVec 32 := 128#32
  let v372 : BitVec 32 := Scalar.muli v371 c128_i32_219
  let c1408_i32_227 : BitVec 32 := 1408#32
  ![v372.toNat, 1408]
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_223 : BitVec 32 := 1#32
  let v373 : BitVec 32 := Scalar.muli v67 c1_i32_223
  let v374 : BitVec 32 := Scalar.addi c0_i32_224 v373
  v374.toNat
def k0_off14 (d0 : Dev nD) : Fin 2 → Nat :=
  let c0_239 : Index := 0#32
  let c1_i32_228 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v382 : BitVec 32 := Scalar.subi c1_i32_228 v35
  let c4_i32_230 : BitVec 32 := 4#32
  let v384 : BitVec 32 := Scalar.muli v382 c4_i32_230
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_231 : BitVec 32 := 2#32
  let v385 : BitVec 32 := Scalar.muli v18 c2_i32_231
  let v386 : BitVec 32 := Scalar.addi v384 v385
  let c1_i32_229 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v383 : BitVec 32 := Scalar.subi c1_i32_229 v16
  let v387 : BitVec 32 := Scalar.addi v383 v18
  let c2_i32_232 : BitVec 32 := 2#32
  let c0_i32_233 : BitVec 32 := 0#32
  let v388 : BitVec 1 := Scalar.cmpi .eq c2_i32_232 c0_i32_233
  let c1_i32_234 : BitVec 32 := 1#32
  let v389 : BitVec 32 := Scalar.select v388 c1_i32_234 c2_i32_232
  let v390 : BitVec 32 := Scalar.remsi v387 v389
  let c0_i32_236 : BitVec 32 := 0#32
  let v392 : BitVec 1 := Scalar.cmpi .slt v390 c0_i32_236
  let c0_i32_237 : BitVec 32 := 0#32
  let v393 : BitVec 1 := Scalar.cmpi .slt v389 c0_i32_237
  let v394 : BitVec 1 := Scalar.xori v392 v393
  let c0_i32_235 : BitVec 32 := 0#32
  let v391 : BitVec 1 := Scalar.cmpi .ne v390 c0_i32_235
  let v395 : BitVec 1 := Scalar.andi v394 v391
  let v396 : BitVec 32 := Scalar.addi v390 v389
  let v397 : BitVec 32 := Scalar.select v395 v396 v390
  let v398 : BitVec 32 := Scalar.addi v386 v397
  let c128_i32_238 : BitVec 32 := 128#32
  let v399 : BitVec 32 := Scalar.muli v398 c128_i32_238
  let v400 : Index := Scalar.indexCast v399
  ![0, v400.toNat]
def k0_off15 (d0 : Dev nD) : Fin 2 → Nat :=
  let c1_i32_228 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v382 : BitVec 32 := Scalar.subi c1_i32_228 v35
  let c4_i32_230 : BitVec 32 := 4#32
  let v384 : BitVec 32 := Scalar.muli v382 c4_i32_230
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_231 : BitVec 32 := 2#32
  let v385 : BitVec 32 := Scalar.muli v18 c2_i32_231
  let v386 : BitVec 32 := Scalar.addi v384 v385
  let c1_i32_229 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v383 : BitVec 32 := Scalar.subi c1_i32_229 v16
  let v387 : BitVec 32 := Scalar.addi v383 v18
  let c2_i32_232 : BitVec 32 := 2#32
  let c0_i32_233 : BitVec 32 := 0#32
  let v388 : BitVec 1 := Scalar.cmpi .eq c2_i32_232 c0_i32_233
  let c1_i32_234 : BitVec 32 := 1#32
  let v389 : BitVec 32 := Scalar.select v388 c1_i32_234 c2_i32_232
  let v390 : BitVec 32 := Scalar.remsi v387 v389
  let c0_i32_236 : BitVec 32 := 0#32
  let v392 : BitVec 1 := Scalar.cmpi .slt v390 c0_i32_236
  let c0_i32_237 : BitVec 32 := 0#32
  let v393 : BitVec 1 := Scalar.cmpi .slt v389 c0_i32_237
  let v394 : BitVec 1 := Scalar.xori v392 v393
  let c0_i32_235 : BitVec 32 := 0#32
  let v391 : BitVec 1 := Scalar.cmpi .ne v390 c0_i32_235
  let v395 : BitVec 1 := Scalar.andi v394 v391
  let v396 : BitVec 32 := Scalar.addi v390 v389
  let v397 : BitVec 32 := Scalar.select v395 v396 v390
  let v398 : BitVec 32 := Scalar.addi v386 v397
  let c128_i32_243 : BitVec 32 := 128#32
  let v407 : BitVec 32 := Scalar.muli v398 c128_i32_243
  let v408 : Index := Scalar.indexCast v407
  let c2816_244 : Index := 2816#32
  ![v408.toNat, 2816]
def k0_off16 (d0 : Dev nD) : Fin 2 → Nat :=
  let c1_i32_245 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v412 : BitVec 32 := Scalar.subi c1_i32_245 v35
  let c4_i32_247 : BitVec 32 := 4#32
  let v414 : BitVec 32 := Scalar.muli v412 c4_i32_247
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_248 : BitVec 32 := 2#32
  let v415 : BitVec 32 := Scalar.muli v18 c2_i32_248
  let v416 : BitVec 32 := Scalar.addi v414 v415
  let c1_i32_246 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v413 : BitVec 32 := Scalar.subi c1_i32_246 v16
  let v417 : BitVec 32 := Scalar.addi v413 v18
  let c2_i32_249 : BitVec 32 := 2#32
  let c0_i32_250 : BitVec 32 := 0#32
  let v418 : BitVec 1 := Scalar.cmpi .eq c2_i32_249 c0_i32_250
  let c1_i32_251 : BitVec 32 := 1#32
  let v419 : BitVec 32 := Scalar.select v418 c1_i32_251 c2_i32_249
  let v420 : BitVec 32 := Scalar.remsi v417 v419
  let c0_i32_253 : BitVec 32 := 0#32
  let v422 : BitVec 1 := Scalar.cmpi .slt v420 c0_i32_253
  let c0_i32_254 : BitVec 32 := 0#32
  let v423 : BitVec 1 := Scalar.cmpi .slt v419 c0_i32_254
  let v424 : BitVec 1 := Scalar.xori v422 v423
  let c0_i32_252 : BitVec 32 := 0#32
  let v421 : BitVec 1 := Scalar.cmpi .ne v420 c0_i32_252
  let v425 : BitVec 1 := Scalar.andi v424 v421
  let v426 : BitVec 32 := Scalar.addi v420 v419
  let v427 : BitVec 32 := Scalar.select v425 v426 v420
  let v428 : BitVec 32 := Scalar.addi v416 v427
  let c128_i32_255 : BitVec 32 := 128#32
  let v429 : BitVec 32 := Scalar.muli v428 c128_i32_255
  let c2816_i32_263 : BitVec 32 := 2816#32
  ![v429.toNat, 2816]
def k0_dev9 (d0 : Dev nD) : Nat :=
  let c0_i32_260 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_259 : BitVec 32 := 1#32
  let v430 : BitVec 32 := Scalar.muli v83 c1_i32_259
  let v431 : BitVec 32 := Scalar.addi c0_i32_260 v430
  v431.toNat
def k0_off17 (d0 : Dev nD) : Fin 2 → Nat :=
  let c0_274 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_265 : BitVec 32 := 4#32
  let v440 : BitVec 32 := Scalar.muli v35 c4_i32_265
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_266 : BitVec 32 := 2#32
  let v441 : BitVec 32 := Scalar.muli v18 c2_i32_266
  let v442 : BitVec 32 := Scalar.addi v440 v441
  let c1_i32_264 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v439 : BitVec 32 := Scalar.subi c1_i32_264 v16
  let v443 : BitVec 32 := Scalar.addi v439 v18
  let c2_i32_267 : BitVec 32 := 2#32
  let c0_i32_268 : BitVec 32 := 0#32
  let v444 : BitVec 1 := Scalar.cmpi .eq c2_i32_267 c0_i32_268
  let c1_i32_269 : BitVec 32 := 1#32
  let v445 : BitVec 32 := Scalar.select v444 c1_i32_269 c2_i32_267
  let v446 : BitVec 32 := Scalar.remsi v443 v445
  let c0_i32_271 : BitVec 32 := 0#32
  let v448 : BitVec 1 := Scalar.cmpi .slt v446 c0_i32_271
  let c0_i32_272 : BitVec 32 := 0#32
  let v449 : BitVec 1 := Scalar.cmpi .slt v445 c0_i32_272
  let v450 : BitVec 1 := Scalar.xori v448 v449
  let c0_i32_270 : BitVec 32 := 0#32
  let v447 : BitVec 1 := Scalar.cmpi .ne v446 c0_i32_270
  let v451 : BitVec 1 := Scalar.andi v450 v447
  let v452 : BitVec 32 := Scalar.addi v446 v445
  let v453 : BitVec 32 := Scalar.select v451 v452 v446
  let v454 : BitVec 32 := Scalar.addi v442 v453
  let c128_i32_273 : BitVec 32 := 128#32
  let v455 : BitVec 32 := Scalar.muli v454 c128_i32_273
  let v456 : Index := Scalar.indexCast v455
  ![0, v456.toNat]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_265 : BitVec 32 := 4#32
  let v440 : BitVec 32 := Scalar.muli v35 c4_i32_265
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_266 : BitVec 32 := 2#32
  let v441 : BitVec 32 := Scalar.muli v18 c2_i32_266
  let v442 : BitVec 32 := Scalar.addi v440 v441
  let c1_i32_264 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v439 : BitVec 32 := Scalar.subi c1_i32_264 v16
  let v443 : BitVec 32 := Scalar.addi v439 v18
  let c2_i32_267 : BitVec 32 := 2#32
  let c0_i32_268 : BitVec 32 := 0#32
  let v444 : BitVec 1 := Scalar.cmpi .eq c2_i32_267 c0_i32_268
  let c1_i32_269 : BitVec 32 := 1#32
  let v445 : BitVec 32 := Scalar.select v444 c1_i32_269 c2_i32_267
  let v446 : BitVec 32 := Scalar.remsi v443 v445
  let c0_i32_271 : BitVec 32 := 0#32
  let v448 : BitVec 1 := Scalar.cmpi .slt v446 c0_i32_271
  let c0_i32_272 : BitVec 32 := 0#32
  let v449 : BitVec 1 := Scalar.cmpi .slt v445 c0_i32_272
  let v450 : BitVec 1 := Scalar.xori v448 v449
  let c0_i32_270 : BitVec 32 := 0#32
  let v447 : BitVec 1 := Scalar.cmpi .ne v446 c0_i32_270
  let v451 : BitVec 1 := Scalar.andi v450 v447
  let v452 : BitVec 32 := Scalar.addi v446 v445
  let v453 : BitVec 32 := Scalar.select v451 v452 v446
  let v454 : BitVec 32 := Scalar.addi v442 v453
  let c128_i32_278 : BitVec 32 := 128#32
  let v463 : BitVec 32 := Scalar.muli v454 c128_i32_278
  let v464 : Index := Scalar.indexCast v463
  let c0_279 : Index := 0#32
  ![v464.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_281 : BitVec 32 := 4#32
  let v469 : BitVec 32 := Scalar.muli v35 c4_i32_281
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_282 : BitVec 32 := 2#32
  let v470 : BitVec 32 := Scalar.muli v18 c2_i32_282
  let v471 : BitVec 32 := Scalar.addi v469 v470
  let c1_i32_280 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v468 : BitVec 32 := Scalar.subi c1_i32_280 v16
  let v472 : BitVec 32 := Scalar.addi v468 v18
  let c2_i32_283 : BitVec 32 := 2#32
  let c0_i32_284 : BitVec 32 := 0#32
  let v473 : BitVec 1 := Scalar.cmpi .eq c2_i32_283 c0_i32_284
  let c1_i32_285 : BitVec 32 := 1#32
  let v474 : BitVec 32 := Scalar.select v473 c1_i32_285 c2_i32_283
  let v475 : BitVec 32 := Scalar.remsi v472 v474
  let c0_i32_287 : BitVec 32 := 0#32
  let v477 : BitVec 1 := Scalar.cmpi .slt v475 c0_i32_287
  let c0_i32_288 : BitVec 32 := 0#32
  let v478 : BitVec 1 := Scalar.cmpi .slt v474 c0_i32_288
  let v479 : BitVec 1 := Scalar.xori v477 v478
  let c0_i32_286 : BitVec 32 := 0#32
  let v476 : BitVec 1 := Scalar.cmpi .ne v475 c0_i32_286
  let v480 : BitVec 1 := Scalar.andi v479 v476
  let v481 : BitVec 32 := Scalar.addi v475 v474
  let v482 : BitVec 32 := Scalar.select v480 v481 v475
  let v483 : BitVec 32 := Scalar.addi v471 v482
  let c128_i32_289 : BitVec 32 := 128#32
  let v484 : BitVec 32 := Scalar.muli v483 c128_i32_289
  let c0_i32_297 : BitVec 32 := 0#32
  ![v484.toNat, 0]
def k0_dev10 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_293 : BitVec 32 := 1#32
  let v485 : BitVec 32 := Scalar.muli v51 c1_i32_293
  let v486 : BitVec 32 := Scalar.addi c0_i32_294 v485
  v486.toNat
def k0_off20 (d0 : Dev nD) : Fin 2 → Nat :=
  let c0_308 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_299 : BitVec 32 := 4#32
  let v495 : BitVec 32 := Scalar.muli v35 c4_i32_299
  let c1_i32_298 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v494 : BitVec 32 := Scalar.subi c1_i32_298 v18
  let c2_i32_300 : BitVec 32 := 2#32
  let v496 : BitVec 32 := Scalar.muli v494 c2_i32_300
  let v497 : BitVec 32 := Scalar.addi v495 v496
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v498 : BitVec 32 := Scalar.addi v16 v494
  let c2_i32_301 : BitVec 32 := 2#32
  let c0_i32_302 : BitVec 32 := 0#32
  let v499 : BitVec 1 := Scalar.cmpi .eq c2_i32_301 c0_i32_302
  let c1_i32_303 : BitVec 32 := 1#32
  let v500 : BitVec 32 := Scalar.select v499 c1_i32_303 c2_i32_301
  let v501 : BitVec 32 := Scalar.remsi v498 v500
  let c0_i32_305 : BitVec 32 := 0#32
  let v503 : BitVec 1 := Scalar.cmpi .slt v501 c0_i32_305
  let c0_i32_306 : BitVec 32 := 0#32
  let v504 : BitVec 1 := Scalar.cmpi .slt v500 c0_i32_306
  let v505 : BitVec 1 := Scalar.xori v503 v504
  let c0_i32_304 : BitVec 32 := 0#32
  let v502 : BitVec 1 := Scalar.cmpi .ne v501 c0_i32_304
  let v506 : BitVec 1 := Scalar.andi v505 v502
  let v507 : BitVec 32 := Scalar.addi v501 v500
  let v508 : BitVec 32 := Scalar.select v506 v507 v501
  let v509 : BitVec 32 := Scalar.addi v497 v508
  let c128_i32_307 : BitVec 32 := 128#32
  let v510 : BitVec 32 := Scalar.muli v509 c128_i32_307
  let v511 : Index := Scalar.indexCast v510
  ![0, v511.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_299 : BitVec 32 := 4#32
  let v495 : BitVec 32 := Scalar.muli v35 c4_i32_299
  let c1_i32_298 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v494 : BitVec 32 := Scalar.subi c1_i32_298 v18
  let c2_i32_300 : BitVec 32 := 2#32
  let v496 : BitVec 32 := Scalar.muli v494 c2_i32_300
  let v497 : BitVec 32 := Scalar.addi v495 v496
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v498 : BitVec 32 := Scalar.addi v16 v494
  let c2_i32_301 : BitVec 32 := 2#32
  let c0_i32_302 : BitVec 32 := 0#32
  let v499 : BitVec 1 := Scalar.cmpi .eq c2_i32_301 c0_i32_302
  let c1_i32_303 : BitVec 32 := 1#32
  let v500 : BitVec 32 := Scalar.select v499 c1_i32_303 c2_i32_301
  let v501 : BitVec 32 := Scalar.remsi v498 v500
  let c0_i32_305 : BitVec 32 := 0#32
  let v503 : BitVec 1 := Scalar.cmpi .slt v501 c0_i32_305
  let c0_i32_306 : BitVec 32 := 0#32
  let v504 : BitVec 1 := Scalar.cmpi .slt v500 c0_i32_306
  let v505 : BitVec 1 := Scalar.xori v503 v504
  let c0_i32_304 : BitVec 32 := 0#32
  let v502 : BitVec 1 := Scalar.cmpi .ne v501 c0_i32_304
  let v506 : BitVec 1 := Scalar.andi v505 v502
  let v507 : BitVec 32 := Scalar.addi v501 v500
  let v508 : BitVec 32 := Scalar.select v506 v507 v501
  let v509 : BitVec 32 := Scalar.addi v497 v508
  let c128_i32_312 : BitVec 32 := 128#32
  let v518 : BitVec 32 := Scalar.muli v509 c128_i32_312
  let v519 : Index := Scalar.indexCast v518
  let c1408_313 : Index := 1408#32
  ![v519.toNat, 1408]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_315 : BitVec 32 := 4#32
  let v524 : BitVec 32 := Scalar.muli v35 c4_i32_315
  let c1_i32_314 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v523 : BitVec 32 := Scalar.subi c1_i32_314 v18
  let c2_i32_316 : BitVec 32 := 2#32
  let v525 : BitVec 32 := Scalar.muli v523 c2_i32_316
  let v526 : BitVec 32 := Scalar.addi v524 v525
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v527 : BitVec 32 := Scalar.addi v16 v523
  let c2_i32_317 : BitVec 32 := 2#32
  let c0_i32_318 : BitVec 32 := 0#32
  let v528 : BitVec 1 := Scalar.cmpi .eq c2_i32_317 c0_i32_318
  let c1_i32_319 : BitVec 32 := 1#32
  let v529 : BitVec 32 := Scalar.select v528 c1_i32_319 c2_i32_317
  let v530 : BitVec 32 := Scalar.remsi v527 v529
  let c0_i32_321 : BitVec 32 := 0#32
  let v532 : BitVec 1 := Scalar.cmpi .slt v530 c0_i32_321
  let c0_i32_322 : BitVec 32 := 0#32
  let v533 : BitVec 1 := Scalar.cmpi .slt v529 c0_i32_322
  let v534 : BitVec 1 := Scalar.xori v532 v533
  let c0_i32_320 : BitVec 32 := 0#32
  let v531 : BitVec 1 := Scalar.cmpi .ne v530 c0_i32_320
  let v535 : BitVec 1 := Scalar.andi v534 v531
  let v536 : BitVec 32 := Scalar.addi v530 v529
  let v537 : BitVec 32 := Scalar.select v535 v536 v530
  let v538 : BitVec 32 := Scalar.addi v526 v537
  let c128_i32_323 : BitVec 32 := 128#32
  let v539 : BitVec 32 := Scalar.muli v538 c128_i32_323
  let c1408_i32_331 : BitVec 32 := 1408#32
  ![v539.toNat, 1408]
def k0_dev11 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_327 : BitVec 32 := 1#32
  let v540 : BitVec 32 := Scalar.muli v67 c1_i32_327
  let v541 : BitVec 32 := Scalar.addi c0_i32_328 v540
  v541.toNat
def k0_off23 (d0 : Dev nD) : Fin 2 → Nat :=
  let c0_342 : Index := 0#32
  let c1_i32_332 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v549 : BitVec 32 := Scalar.subi c1_i32_332 v35
  let c4_i32_333 : BitVec 32 := 4#32
  let v550 : BitVec 32 := Scalar.muli v549 c4_i32_333
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_334 : BitVec 32 := 2#32
  let v551 : BitVec 32 := Scalar.muli v18 c2_i32_334
  let v552 : BitVec 32 := Scalar.addi v550 v551
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v553 : BitVec 32 := Scalar.addi v16 v18
  let c2_i32_335 : BitVec 32 := 2#32
  let c0_i32_336 : BitVec 32 := 0#32
  let v554 : BitVec 1 := Scalar.cmpi .eq c2_i32_335 c0_i32_336
  let c1_i32_337 : BitVec 32 := 1#32
  let v555 : BitVec 32 := Scalar.select v554 c1_i32_337 c2_i32_335
  let v556 : BitVec 32 := Scalar.remsi v553 v555
  let c0_i32_339 : BitVec 32 := 0#32
  let v558 : BitVec 1 := Scalar.cmpi .slt v556 c0_i32_339
  let c0_i32_340 : BitVec 32 := 0#32
  let v559 : BitVec 1 := Scalar.cmpi .slt v555 c0_i32_340
  let v560 : BitVec 1 := Scalar.xori v558 v559
  let c0_i32_338 : BitVec 32 := 0#32
  let v557 : BitVec 1 := Scalar.cmpi .ne v556 c0_i32_338
  let v561 : BitVec 1 := Scalar.andi v560 v557
  let v562 : BitVec 32 := Scalar.addi v556 v555
  let v563 : BitVec 32 := Scalar.select v561 v562 v556
  let v564 : BitVec 32 := Scalar.addi v552 v563
  let c128_i32_341 : BitVec 32 := 128#32
  let v565 : BitVec 32 := Scalar.muli v564 c128_i32_341
  let v566 : Index := Scalar.indexCast v565
  ![0, v566.toNat]
def k0_off24 (d0 : Dev nD) : Fin 2 → Nat :=
  let c1_i32_332 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v549 : BitVec 32 := Scalar.subi c1_i32_332 v35
  let c4_i32_333 : BitVec 32 := 4#32
  let v550 : BitVec 32 := Scalar.muli v549 c4_i32_333
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_334 : BitVec 32 := 2#32
  let v551 : BitVec 32 := Scalar.muli v18 c2_i32_334
  let v552 : BitVec 32 := Scalar.addi v550 v551
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v553 : BitVec 32 := Scalar.addi v16 v18
  let c2_i32_335 : BitVec 32 := 2#32
  let c0_i32_336 : BitVec 32 := 0#32
  let v554 : BitVec 1 := Scalar.cmpi .eq c2_i32_335 c0_i32_336
  let c1_i32_337 : BitVec 32 := 1#32
  let v555 : BitVec 32 := Scalar.select v554 c1_i32_337 c2_i32_335
  let v556 : BitVec 32 := Scalar.remsi v553 v555
  let c0_i32_339 : BitVec 32 := 0#32
  let v558 : BitVec 1 := Scalar.cmpi .slt v556 c0_i32_339
  let c0_i32_340 : BitVec 32 := 0#32
  let v559 : BitVec 1 := Scalar.cmpi .slt v555 c0_i32_340
  let v560 : BitVec 1 := Scalar.xori v558 v559
  let c0_i32_338 : BitVec 32 := 0#32
  let v557 : BitVec 1 := Scalar.cmpi .ne v556 c0_i32_338
  let v561 : BitVec 1 := Scalar.andi v560 v557
  let v562 : BitVec 32 := Scalar.addi v556 v555
  let v563 : BitVec 32 := Scalar.select v561 v562 v556
  let v564 : BitVec 32 := Scalar.addi v552 v563
  let c128_i32_346 : BitVec 32 := 128#32
  let v573 : BitVec 32 := Scalar.muli v564 c128_i32_346
  let v574 : Index := Scalar.indexCast v573
  let c2816_347 : Index := 2816#32
  ![v574.toNat, 2816]
def k0_off25 (d0 : Dev nD) : Fin 2 → Nat :=
  let c1_i32_348 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v578 : BitVec 32 := Scalar.subi c1_i32_348 v35
  let c4_i32_349 : BitVec 32 := 4#32
  let v579 : BitVec 32 := Scalar.muli v578 c4_i32_349
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_350 : BitVec 32 := 2#32
  let v580 : BitVec 32 := Scalar.muli v18 c2_i32_350
  let v581 : BitVec 32 := Scalar.addi v579 v580
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v582 : BitVec 32 := Scalar.addi v16 v18
  let c2_i32_351 : BitVec 32 := 2#32
  let c0_i32_352 : BitVec 32 := 0#32
  let v583 : BitVec 1 := Scalar.cmpi .eq c2_i32_351 c0_i32_352
  let c1_i32_353 : BitVec 32 := 1#32
  let v584 : BitVec 32 := Scalar.select v583 c1_i32_353 c2_i32_351
  let v585 : BitVec 32 := Scalar.remsi v582 v584
  let c0_i32_355 : BitVec 32 := 0#32
  let v587 : BitVec 1 := Scalar.cmpi .slt v585 c0_i32_355
  let c0_i32_356 : BitVec 32 := 0#32
  let v588 : BitVec 1 := Scalar.cmpi .slt v584 c0_i32_356
  let v589 : BitVec 1 := Scalar.xori v587 v588
  let c0_i32_354 : BitVec 32 := 0#32
  let v586 : BitVec 1 := Scalar.cmpi .ne v585 c0_i32_354
  let v590 : BitVec 1 := Scalar.andi v589 v586
  let v591 : BitVec 32 := Scalar.addi v585 v584
  let v592 : BitVec 32 := Scalar.select v590 v591 v585
  let v593 : BitVec 32 := Scalar.addi v581 v592
  let c128_i32_357 : BitVec 32 := 128#32
  let v594 : BitVec 32 := Scalar.muli v593 c128_i32_357
  let c2816_i32_365 : BitVec 32 := 2816#32
  ![v594.toNat, 2816]
def k0_dev12 (d0 : Dev nD) : Nat :=
  let c0_i32_362 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_361 : BitVec 32 := 1#32
  let v595 : BitVec 32 := Scalar.muli v83 c1_i32_361
  let v596 : BitVec 32 := Scalar.addi c0_i32_362 v595
  v596.toNat
def k0_off26 (d0 : Dev nD) : Fin 2 → Nat :=
  let c1_i32_367 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v605 : BitVec 32 := Scalar.subi c1_i32_367 v35
  let c4_i32_368 : BitVec 32 := 4#32
  let v606 : BitVec 32 := Scalar.muli v605 c4_i32_368
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_369 : BitVec 32 := 2#32
  let v607 : BitVec 32 := Scalar.muli v18 c2_i32_369
  let v608 : BitVec 32 := Scalar.addi v606 v607
  let c1_i32_366 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v604 : BitVec 32 := Scalar.subi c1_i32_366 v16
  let v609 : BitVec 32 := Scalar.addi v604 v18
  let c2_i32_370 : BitVec 32 := 2#32
  let c0_i32_371 : BitVec 32 := 0#32
  let v610 : BitVec 1 := Scalar.cmpi .eq c2_i32_370 c0_i32_371
  let c1_i32_372 : BitVec 32 := 1#32
  let v611 : BitVec 32 := Scalar.select v610 c1_i32_372 c2_i32_370
  let v612 : BitVec 32 := Scalar.remsi v609 v611
  let c0_i32_374 : BitVec 32 := 0#32
  let v614 : BitVec 1 := Scalar.cmpi .slt v612 c0_i32_374
  let c0_i32_375 : BitVec 32 := 0#32
  let v615 : BitVec 1 := Scalar.cmpi .slt v611 c0_i32_375
  let v616 : BitVec 1 := Scalar.xori v614 v615
  let c0_i32_373 : BitVec 32 := 0#32
  let v613 : BitVec 1 := Scalar.cmpi .ne v612 c0_i32_373
  let v617 : BitVec 1 := Scalar.andi v616 v613
  let v618 : BitVec 32 := Scalar.addi v612 v611
  let v619 : BitVec 32 := Scalar.select v617 v618 v612
  let v620 : BitVec 32 := Scalar.addi v608 v619
  let c128_i32_381 : BitVec 32 := 128#32
  let v629 : BitVec 32 := Scalar.muli v620 c128_i32_381
  let v630 : Index := Scalar.indexCast v629
  let c0_382 : Index := 0#32
  ![v630.toNat, 0]
def k0_off27 (d0 : Dev nD) : Fin 2 → Nat :=
  let c1_i32_384 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v635 : BitVec 32 := Scalar.subi c1_i32_384 v35
  let c4_i32_385 : BitVec 32 := 4#32
  let v636 : BitVec 32 := Scalar.muli v635 c4_i32_385
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_386 : BitVec 32 := 2#32
  let v637 : BitVec 32 := Scalar.muli v18 c2_i32_386
  let v638 : BitVec 32 := Scalar.addi v636 v637
  let c1_i32_383 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v634 : BitVec 32 := Scalar.subi c1_i32_383 v16
  let v639 : BitVec 32 := Scalar.addi v634 v18
  let c2_i32_387 : BitVec 32 := 2#32
  let c0_i32_388 : BitVec 32 := 0#32
  let v640 : BitVec 1 := Scalar.cmpi .eq c2_i32_387 c0_i32_388
  let c1_i32_389 : BitVec 32 := 1#32
  let v641 : BitVec 32 := Scalar.select v640 c1_i32_389 c2_i32_387
  let v642 : BitVec 32 := Scalar.remsi v639 v641
  let c0_i32_391 : BitVec 32 := 0#32
  let v644 : BitVec 1 := Scalar.cmpi .slt v642 c0_i32_391
  let c0_i32_392 : BitVec 32 := 0#32
  let v645 : BitVec 1 := Scalar.cmpi .slt v641 c0_i32_392
  let v646 : BitVec 1 := Scalar.xori v644 v645
  let c0_i32_390 : BitVec 32 := 0#32
  let v643 : BitVec 1 := Scalar.cmpi .ne v642 c0_i32_390
  let v647 : BitVec 1 := Scalar.andi v646 v643
  let v648 : BitVec 32 := Scalar.addi v642 v641
  let v649 : BitVec 32 := Scalar.select v647 v648 v642
  let v650 : BitVec 32 := Scalar.addi v638 v649
  let c128_i32_393 : BitVec 32 := 128#32
  let v651 : BitVec 32 := Scalar.muli v650 c128_i32_393
  let c0_i32_401 : BitVec 32 := 0#32
  ![v651.toNat, 0]
def k0_dev13 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_397 : BitVec 32 := 1#32
  let v652 : BitVec 32 := Scalar.muli v51 c1_i32_397
  let v653 : BitVec 32 := Scalar.addi c0_i32_398 v652
  v653.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_404 : BitVec 32 := 4#32
  let v663 : BitVec 32 := Scalar.muli v35 c4_i32_404
  let c1_i32_402 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v661 : BitVec 32 := Scalar.subi c1_i32_402 v18
  let c2_i32_405 : BitVec 32 := 2#32
  let v664 : BitVec 32 := Scalar.muli v661 c2_i32_405
  let v665 : BitVec 32 := Scalar.addi v663 v664
  let c1_i32_403 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v662 : BitVec 32 := Scalar.subi c1_i32_403 v16
  let v666 : BitVec 32 := Scalar.addi v662 v661
  let c2_i32_406 : BitVec 32 := 2#32
  let c0_i32_407 : BitVec 32 := 0#32
  let v667 : BitVec 1 := Scalar.cmpi .eq c2_i32_406 c0_i32_407
  let c1_i32_408 : BitVec 32 := 1#32
  let v668 : BitVec 32 := Scalar.select v667 c1_i32_408 c2_i32_406
  let v669 : BitVec 32 := Scalar.remsi v666 v668
  let c0_i32_410 : BitVec 32 := 0#32
  let v671 : BitVec 1 := Scalar.cmpi .slt v669 c0_i32_410
  let c0_i32_411 : BitVec 32 := 0#32
  let v672 : BitVec 1 := Scalar.cmpi .slt v668 c0_i32_411
  let v673 : BitVec 1 := Scalar.xori v671 v672
  let c0_i32_409 : BitVec 32 := 0#32
  let v670 : BitVec 1 := Scalar.cmpi .ne v669 c0_i32_409
  let v674 : BitVec 1 := Scalar.andi v673 v670
  let v675 : BitVec 32 := Scalar.addi v669 v668
  let v676 : BitVec 32 := Scalar.select v674 v675 v669
  let v677 : BitVec 32 := Scalar.addi v665 v676
  let c128_i32_417 : BitVec 32 := 128#32
  let v686 : BitVec 32 := Scalar.muli v677 c128_i32_417
  let v687 : Index := Scalar.indexCast v686
  let c1408_418 : Index := 1408#32
  ![v687.toNat, 1408]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_421 : BitVec 32 := 4#32
  let v693 : BitVec 32 := Scalar.muli v35 c4_i32_421
  let c1_i32_419 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v691 : BitVec 32 := Scalar.subi c1_i32_419 v18
  let c2_i32_422 : BitVec 32 := 2#32
  let v694 : BitVec 32 := Scalar.muli v691 c2_i32_422
  let v695 : BitVec 32 := Scalar.addi v693 v694
  let c1_i32_420 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v692 : BitVec 32 := Scalar.subi c1_i32_420 v16
  let v696 : BitVec 32 := Scalar.addi v692 v691
  let c2_i32_423 : BitVec 32 := 2#32
  let c0_i32_424 : BitVec 32 := 0#32
  let v697 : BitVec 1 := Scalar.cmpi .eq c2_i32_423 c0_i32_424
  let c1_i32_425 : BitVec 32 := 1#32
  let v698 : BitVec 32 := Scalar.select v697 c1_i32_425 c2_i32_423
  let v699 : BitVec 32 := Scalar.remsi v696 v698
  let c0_i32_427 : BitVec 32 := 0#32
  let v701 : BitVec 1 := Scalar.cmpi .slt v699 c0_i32_427
  let c0_i32_428 : BitVec 32 := 0#32
  let v702 : BitVec 1 := Scalar.cmpi .slt v698 c0_i32_428
  let v703 : BitVec 1 := Scalar.xori v701 v702
  let c0_i32_426 : BitVec 32 := 0#32
  let v700 : BitVec 1 := Scalar.cmpi .ne v699 c0_i32_426
  let v704 : BitVec 1 := Scalar.andi v703 v700
  let v705 : BitVec 32 := Scalar.addi v699 v698
  let v706 : BitVec 32 := Scalar.select v704 v705 v699
  let v707 : BitVec 32 := Scalar.addi v695 v706
  let c128_i32_429 : BitVec 32 := 128#32
  let v708 : BitVec 32 := Scalar.muli v707 c128_i32_429
  let c1408_i32_437 : BitVec 32 := 1408#32
  ![v708.toNat, 1408]
def k0_dev14 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_433 : BitVec 32 := 1#32
  let v709 : BitVec 32 := Scalar.muli v67 c1_i32_433
  let v710 : BitVec 32 := Scalar.addi c0_i32_434 v709
  v710.toNat
def k0_off30 (d0 : Dev nD) : Fin 2 → Nat :=
  let c1_i32_438 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v718 : BitVec 32 := Scalar.subi c1_i32_438 v35
  let c4_i32_440 : BitVec 32 := 4#32
  let v720 : BitVec 32 := Scalar.muli v718 c4_i32_440
  let c1_i32_439 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v719 : BitVec 32 := Scalar.subi c1_i32_439 v18
  let c2_i32_441 : BitVec 32 := 2#32
  let v721 : BitVec 32 := Scalar.muli v719 c2_i32_441
  let v722 : BitVec 32 := Scalar.addi v720 v721
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v723 : BitVec 32 := Scalar.addi v16 v719
  let c2_i32_442 : BitVec 32 := 2#32
  let c0_i32_443 : BitVec 32 := 0#32
  let v724 : BitVec 1 := Scalar.cmpi .eq c2_i32_442 c0_i32_443
  let c1_i32_444 : BitVec 32 := 1#32
  let v725 : BitVec 32 := Scalar.select v724 c1_i32_444 c2_i32_442
  let v726 : BitVec 32 := Scalar.remsi v723 v725
  let c0_i32_446 : BitVec 32 := 0#32
  let v728 : BitVec 1 := Scalar.cmpi .slt v726 c0_i32_446
  let c0_i32_447 : BitVec 32 := 0#32
  let v729 : BitVec 1 := Scalar.cmpi .slt v725 c0_i32_447
  let v730 : BitVec 1 := Scalar.xori v728 v729
  let c0_i32_445 : BitVec 32 := 0#32
  let v727 : BitVec 1 := Scalar.cmpi .ne v726 c0_i32_445
  let v731 : BitVec 1 := Scalar.andi v730 v727
  let v732 : BitVec 32 := Scalar.addi v726 v725
  let v733 : BitVec 32 := Scalar.select v731 v732 v726
  let v734 : BitVec 32 := Scalar.addi v722 v733
  let c128_i32_453 : BitVec 32 := 128#32
  let v743 : BitVec 32 := Scalar.muli v734 c128_i32_453
  let v744 : Index := Scalar.indexCast v743
  let c2816_454 : Index := 2816#32
  ![v744.toNat, 2816]
def k0_off31 (d0 : Dev nD) : Fin 2 → Nat :=
  let c1_i32_455 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v748 : BitVec 32 := Scalar.subi c1_i32_455 v35
  let c4_i32_457 : BitVec 32 := 4#32
  let v750 : BitVec 32 := Scalar.muli v748 c4_i32_457
  let c1_i32_456 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v749 : BitVec 32 := Scalar.subi c1_i32_456 v18
  let c2_i32_458 : BitVec 32 := 2#32
  let v751 : BitVec 32 := Scalar.muli v749 c2_i32_458
  let v752 : BitVec 32 := Scalar.addi v750 v751
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v753 : BitVec 32 := Scalar.addi v16 v749
  let c2_i32_459 : BitVec 32 := 2#32
  let c0_i32_460 : BitVec 32 := 0#32
  let v754 : BitVec 1 := Scalar.cmpi .eq c2_i32_459 c0_i32_460
  let c1_i32_461 : BitVec 32 := 1#32
  let v755 : BitVec 32 := Scalar.select v754 c1_i32_461 c2_i32_459
  let v756 : BitVec 32 := Scalar.remsi v753 v755
  let c0_i32_463 : BitVec 32 := 0#32
  let v758 : BitVec 1 := Scalar.cmpi .slt v756 c0_i32_463
  let c0_i32_464 : BitVec 32 := 0#32
  let v759 : BitVec 1 := Scalar.cmpi .slt v755 c0_i32_464
  let v760 : BitVec 1 := Scalar.xori v758 v759
  let c0_i32_462 : BitVec 32 := 0#32
  let v757 : BitVec 1 := Scalar.cmpi .ne v756 c0_i32_462
  let v761 : BitVec 1 := Scalar.andi v760 v757
  let v762 : BitVec 32 := Scalar.addi v756 v755
  let v763 : BitVec 32 := Scalar.select v761 v762 v756
  let v764 : BitVec 32 := Scalar.addi v752 v763
  let c128_i32_465 : BitVec 32 := 128#32
  let v765 : BitVec 32 := Scalar.muli v764 c128_i32_465
  let c2816_i32_473 : BitVec 32 := 2816#32
  ![v765.toNat, 2816]
def k0_dev15 (d0 : Dev nD) : Nat :=
  let c0_i32_470 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_469 : BitVec 32 := 1#32
  let v766 : BitVec 32 := Scalar.muli v83 c1_i32_469
  let v767 : BitVec 32 := Scalar.addi c0_i32_470 v766
  v767.toNat
def k0_off32 (d0 : Dev nD) : Fin 2 → Nat :=
  let c0_483 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_474 : BitVec 32 := 4#32
  let v775 : BitVec 32 := Scalar.muli v35 c4_i32_474
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_475 : BitVec 32 := 2#32
  let v776 : BitVec 32 := Scalar.muli v18 c2_i32_475
  let v777 : BitVec 32 := Scalar.addi v775 v776
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v778 : BitVec 32 := Scalar.addi v16 v18
  let c2_i32_476 : BitVec 32 := 2#32
  let c0_i32_477 : BitVec 32 := 0#32
  let v779 : BitVec 1 := Scalar.cmpi .eq c2_i32_476 c0_i32_477
  let c1_i32_478 : BitVec 32 := 1#32
  let v780 : BitVec 32 := Scalar.select v779 c1_i32_478 c2_i32_476
  let v781 : BitVec 32 := Scalar.remsi v778 v780
  let c0_i32_480 : BitVec 32 := 0#32
  let v783 : BitVec 1 := Scalar.cmpi .slt v781 c0_i32_480
  let c0_i32_481 : BitVec 32 := 0#32
  let v784 : BitVec 1 := Scalar.cmpi .slt v780 c0_i32_481
  let v785 : BitVec 1 := Scalar.xori v783 v784
  let c0_i32_479 : BitVec 32 := 0#32
  let v782 : BitVec 1 := Scalar.cmpi .ne v781 c0_i32_479
  let v786 : BitVec 1 := Scalar.andi v785 v782
  let v787 : BitVec 32 := Scalar.addi v781 v780
  let v788 : BitVec 32 := Scalar.select v786 v787 v781
  let v789 : BitVec 32 := Scalar.addi v777 v788
  let c128_i32_482 : BitVec 32 := 128#32
  let v790 : BitVec 32 := Scalar.muli v789 c128_i32_482
  let v791 : Index := Scalar.indexCast v790
  ![0, v791.toNat]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_474 : BitVec 32 := 4#32
  let v775 : BitVec 32 := Scalar.muli v35 c4_i32_474
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_475 : BitVec 32 := 2#32
  let v776 : BitVec 32 := Scalar.muli v18 c2_i32_475
  let v777 : BitVec 32 := Scalar.addi v775 v776
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v778 : BitVec 32 := Scalar.addi v16 v18
  let c2_i32_476 : BitVec 32 := 2#32
  let c0_i32_477 : BitVec 32 := 0#32
  let v779 : BitVec 1 := Scalar.cmpi .eq c2_i32_476 c0_i32_477
  let c1_i32_478 : BitVec 32 := 1#32
  let v780 : BitVec 32 := Scalar.select v779 c1_i32_478 c2_i32_476
  let v781 : BitVec 32 := Scalar.remsi v778 v780
  let c0_i32_480 : BitVec 32 := 0#32
  let v783 : BitVec 1 := Scalar.cmpi .slt v781 c0_i32_480
  let c0_i32_481 : BitVec 32 := 0#32
  let v784 : BitVec 1 := Scalar.cmpi .slt v780 c0_i32_481
  let v785 : BitVec 1 := Scalar.xori v783 v784
  let c0_i32_479 : BitVec 32 := 0#32
  let v782 : BitVec 1 := Scalar.cmpi .ne v781 c0_i32_479
  let v786 : BitVec 1 := Scalar.andi v785 v782
  let v787 : BitVec 32 := Scalar.addi v781 v780
  let v788 : BitVec 32 := Scalar.select v786 v787 v781
  let v789 : BitVec 32 := Scalar.addi v777 v788
  let c128_i32_487 : BitVec 32 := 128#32
  let v798 : BitVec 32 := Scalar.muli v789 c128_i32_487
  let v799 : Index := Scalar.indexCast v798
  let c0_488 : Index := 0#32
  ![v799.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_489 : BitVec 32 := 4#32
  let v803 : BitVec 32 := Scalar.muli v35 c4_i32_489
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_490 : BitVec 32 := 2#32
  let v804 : BitVec 32 := Scalar.muli v18 c2_i32_490
  let v805 : BitVec 32 := Scalar.addi v803 v804
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v806 : BitVec 32 := Scalar.addi v16 v18
  let c2_i32_491 : BitVec 32 := 2#32
  let c0_i32_492 : BitVec 32 := 0#32
  let v807 : BitVec 1 := Scalar.cmpi .eq c2_i32_491 c0_i32_492
  let c1_i32_493 : BitVec 32 := 1#32
  let v808 : BitVec 32 := Scalar.select v807 c1_i32_493 c2_i32_491
  let v809 : BitVec 32 := Scalar.remsi v806 v808
  let c0_i32_495 : BitVec 32 := 0#32
  let v811 : BitVec 1 := Scalar.cmpi .slt v809 c0_i32_495
  let c0_i32_496 : BitVec 32 := 0#32
  let v812 : BitVec 1 := Scalar.cmpi .slt v808 c0_i32_496
  let v813 : BitVec 1 := Scalar.xori v811 v812
  let c0_i32_494 : BitVec 32 := 0#32
  let v810 : BitVec 1 := Scalar.cmpi .ne v809 c0_i32_494
  let v814 : BitVec 1 := Scalar.andi v813 v810
  let v815 : BitVec 32 := Scalar.addi v809 v808
  let v816 : BitVec 32 := Scalar.select v814 v815 v809
  let v817 : BitVec 32 := Scalar.addi v805 v816
  let c128_i32_502 : BitVec 32 := 128#32
  let v826 : BitVec 32 := Scalar.muli v817 c128_i32_502
  let v827 : Index := Scalar.indexCast v826
  let c1408_503 : Index := 1408#32
  ![v827.toNat, 1408]
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_504 : BitVec 32 := 4#32
  let v831 : BitVec 32 := Scalar.muli v35 c4_i32_504
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_505 : BitVec 32 := 2#32
  let v832 : BitVec 32 := Scalar.muli v18 c2_i32_505
  let v833 : BitVec 32 := Scalar.addi v831 v832
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v834 : BitVec 32 := Scalar.addi v16 v18
  let c2_i32_506 : BitVec 32 := 2#32
  let c0_i32_507 : BitVec 32 := 0#32
  let v835 : BitVec 1 := Scalar.cmpi .eq c2_i32_506 c0_i32_507
  let c1_i32_508 : BitVec 32 := 1#32
  let v836 : BitVec 32 := Scalar.select v835 c1_i32_508 c2_i32_506
  let v837 : BitVec 32 := Scalar.remsi v834 v836
  let c0_i32_510 : BitVec 32 := 0#32
  let v839 : BitVec 1 := Scalar.cmpi .slt v837 c0_i32_510
  let c0_i32_511 : BitVec 32 := 0#32
  let v840 : BitVec 1 := Scalar.cmpi .slt v836 c0_i32_511
  let v841 : BitVec 1 := Scalar.xori v839 v840
  let c0_i32_509 : BitVec 32 := 0#32
  let v838 : BitVec 1 := Scalar.cmpi .ne v837 c0_i32_509
  let v842 : BitVec 1 := Scalar.andi v841 v838
  let v843 : BitVec 32 := Scalar.addi v837 v836
  let v844 : BitVec 32 := Scalar.select v842 v843 v837
  let v845 : BitVec 32 := Scalar.addi v833 v844
  let c128_i32_517 : BitVec 32 := 128#32
  let v854 : BitVec 32 := Scalar.muli v845 c128_i32_517
  let v855 : Index := Scalar.indexCast v854
  let c2816_518 : Index := 2816#32
  ![v855.toNat, 2816]
def k0_off36 (d0 : Dev nD) : Fin 2 → Nat :=
  let c1_i32_519 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v859 : BitVec 32 := Scalar.subi c1_i32_519 v35
  let c4_i32_520 : BitVec 32 := 4#32
  let v860 : BitVec 32 := Scalar.muli v859 c4_i32_520
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_521 : BitVec 32 := 2#32
  let v861 : BitVec 32 := Scalar.muli v18 c2_i32_521
  let v862 : BitVec 32 := Scalar.addi v860 v861
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v863 : BitVec 32 := Scalar.addi v16 v18
  let c2_i32_522 : BitVec 32 := 2#32
  let c0_i32_523 : BitVec 32 := 0#32
  let v864 : BitVec 1 := Scalar.cmpi .eq c2_i32_522 c0_i32_523
  let c1_i32_524 : BitVec 32 := 1#32
  let v865 : BitVec 32 := Scalar.select v864 c1_i32_524 c2_i32_522
  let v866 : BitVec 32 := Scalar.remsi v863 v865
  let c0_i32_526 : BitVec 32 := 0#32
  let v868 : BitVec 1 := Scalar.cmpi .slt v866 c0_i32_526
  let c0_i32_527 : BitVec 32 := 0#32
  let v869 : BitVec 1 := Scalar.cmpi .slt v865 c0_i32_527
  let v870 : BitVec 1 := Scalar.xori v868 v869
  let c0_i32_525 : BitVec 32 := 0#32
  let v867 : BitVec 1 := Scalar.cmpi .ne v866 c0_i32_525
  let v871 : BitVec 1 := Scalar.andi v870 v867
  let v872 : BitVec 32 := Scalar.addi v866 v865
  let v873 : BitVec 32 := Scalar.select v871 v872 v866
  let v874 : BitVec 32 := Scalar.addi v862 v873
  let c128_i32_533 : BitVec 32 := 128#32
  let v883 : BitVec 32 := Scalar.muli v874 c128_i32_533
  let v884 : Index := Scalar.indexCast v883
  let c0_534 : Index := 0#32
  ![v884.toNat, 0]
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_536 : BitVec 32 := 4#32
  let v889 : BitVec 32 := Scalar.muli v35 c4_i32_536
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_537 : BitVec 32 := 2#32
  let v890 : BitVec 32 := Scalar.muli v18 c2_i32_537
  let v891 : BitVec 32 := Scalar.addi v889 v890
  let c1_i32_535 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v888 : BitVec 32 := Scalar.subi c1_i32_535 v16
  let v892 : BitVec 32 := Scalar.addi v888 v18
  let c2_i32_538 : BitVec 32 := 2#32
  let c0_i32_539 : BitVec 32 := 0#32
  let v893 : BitVec 1 := Scalar.cmpi .eq c2_i32_538 c0_i32_539
  let c1_i32_540 : BitVec 32 := 1#32
  let v894 : BitVec 32 := Scalar.select v893 c1_i32_540 c2_i32_538
  let v895 : BitVec 32 := Scalar.remsi v892 v894
  let c0_i32_542 : BitVec 32 := 0#32
  let v897 : BitVec 1 := Scalar.cmpi .slt v895 c0_i32_542
  let c0_i32_543 : BitVec 32 := 0#32
  let v898 : BitVec 1 := Scalar.cmpi .slt v894 c0_i32_543
  let v899 : BitVec 1 := Scalar.xori v897 v898
  let c0_i32_541 : BitVec 32 := 0#32
  let v896 : BitVec 1 := Scalar.cmpi .ne v895 c0_i32_541
  let v900 : BitVec 1 := Scalar.andi v899 v896
  let v901 : BitVec 32 := Scalar.addi v895 v894
  let v902 : BitVec 32 := Scalar.select v900 v901 v895
  let v903 : BitVec 32 := Scalar.addi v891 v902
  let c128_i32_549 : BitVec 32 := 128#32
  let v912 : BitVec 32 := Scalar.muli v903 c128_i32_549
  let v913 : Index := Scalar.indexCast v912
  let c1408_550 : Index := 1408#32
  ![v913.toNat, 1408]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_552 : BitVec 32 := 4#32
  let v918 : BitVec 32 := Scalar.muli v35 c4_i32_552
  let c1_i32_551 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v917 : BitVec 32 := Scalar.subi c1_i32_551 v18
  let c2_i32_553 : BitVec 32 := 2#32
  let v919 : BitVec 32 := Scalar.muli v917 c2_i32_553
  let v920 : BitVec 32 := Scalar.addi v918 v919
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v921 : BitVec 32 := Scalar.addi v16 v917
  let c2_i32_554 : BitVec 32 := 2#32
  let c0_i32_555 : BitVec 32 := 0#32
  let v922 : BitVec 1 := Scalar.cmpi .eq c2_i32_554 c0_i32_555
  let c1_i32_556 : BitVec 32 := 1#32
  let v923 : BitVec 32 := Scalar.select v922 c1_i32_556 c2_i32_554
  let v924 : BitVec 32 := Scalar.remsi v921 v923
  let c0_i32_558 : BitVec 32 := 0#32
  let v926 : BitVec 1 := Scalar.cmpi .slt v924 c0_i32_558
  let c0_i32_559 : BitVec 32 := 0#32
  let v927 : BitVec 1 := Scalar.cmpi .slt v923 c0_i32_559
  let v928 : BitVec 1 := Scalar.xori v926 v927
  let c0_i32_557 : BitVec 32 := 0#32
  let v925 : BitVec 1 := Scalar.cmpi .ne v924 c0_i32_557
  let v929 : BitVec 1 := Scalar.andi v928 v925
  let v930 : BitVec 32 := Scalar.addi v924 v923
  let v931 : BitVec 32 := Scalar.select v929 v930 v924
  let v932 : BitVec 32 := Scalar.addi v920 v931
  let c128_i32_565 : BitVec 32 := 128#32
  let v941 : BitVec 32 := Scalar.muli v932 c128_i32_565
  let v942 : Index := Scalar.indexCast v941
  let c2816_566 : Index := 2816#32
  ![v942.toNat, 2816]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_568 : BitVec 32 := 4#32
  let v947 : BitVec 32 := Scalar.muli v35 c4_i32_568
  let c1_i32_567 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v946 : BitVec 32 := Scalar.subi c1_i32_567 v18
  let c2_i32_569 : BitVec 32 := 2#32
  let v948 : BitVec 32 := Scalar.muli v946 c2_i32_569
  let v949 : BitVec 32 := Scalar.addi v947 v948
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v950 : BitVec 32 := Scalar.addi v16 v946
  let c2_i32_570 : BitVec 32 := 2#32
  let c0_i32_571 : BitVec 32 := 0#32
  let v951 : BitVec 1 := Scalar.cmpi .eq c2_i32_570 c0_i32_571
  let c1_i32_572 : BitVec 32 := 1#32
  let v952 : BitVec 32 := Scalar.select v951 c1_i32_572 c2_i32_570
  let v953 : BitVec 32 := Scalar.remsi v950 v952
  let c0_i32_574 : BitVec 32 := 0#32
  let v955 : BitVec 1 := Scalar.cmpi .slt v953 c0_i32_574
  let c0_i32_575 : BitVec 32 := 0#32
  let v956 : BitVec 1 := Scalar.cmpi .slt v952 c0_i32_575
  let v957 : BitVec 1 := Scalar.xori v955 v956
  let c0_i32_573 : BitVec 32 := 0#32
  let v954 : BitVec 1 := Scalar.cmpi .ne v953 c0_i32_573
  let v958 : BitVec 1 := Scalar.andi v957 v954
  let v959 : BitVec 32 := Scalar.addi v953 v952
  let v960 : BitVec 32 := Scalar.select v958 v959 v953
  let v961 : BitVec 32 := Scalar.addi v949 v960
  let c128_i32_581 : BitVec 32 := 128#32
  let v970 : BitVec 32 := Scalar.muli v961 c128_i32_581
  let v971 : Index := Scalar.indexCast v970
  let c0_582 : Index := 0#32
  ![v971.toNat, 0]
def k0_off40 (d0 : Dev nD) : Fin 2 → Nat :=
  let c1_i32_583 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v975 : BitVec 32 := Scalar.subi c1_i32_583 v35
  let c4_i32_584 : BitVec 32 := 4#32
  let v976 : BitVec 32 := Scalar.muli v975 c4_i32_584
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_585 : BitVec 32 := 2#32
  let v977 : BitVec 32 := Scalar.muli v18 c2_i32_585
  let v978 : BitVec 32 := Scalar.addi v976 v977
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v979 : BitVec 32 := Scalar.addi v16 v18
  let c2_i32_586 : BitVec 32 := 2#32
  let c0_i32_587 : BitVec 32 := 0#32
  let v980 : BitVec 1 := Scalar.cmpi .eq c2_i32_586 c0_i32_587
  let c1_i32_588 : BitVec 32 := 1#32
  let v981 : BitVec 32 := Scalar.select v980 c1_i32_588 c2_i32_586
  let v982 : BitVec 32 := Scalar.remsi v979 v981
  let c0_i32_590 : BitVec 32 := 0#32
  let v984 : BitVec 1 := Scalar.cmpi .slt v982 c0_i32_590
  let c0_i32_591 : BitVec 32 := 0#32
  let v985 : BitVec 1 := Scalar.cmpi .slt v981 c0_i32_591
  let v986 : BitVec 1 := Scalar.xori v984 v985
  let c0_i32_589 : BitVec 32 := 0#32
  let v983 : BitVec 1 := Scalar.cmpi .ne v982 c0_i32_589
  let v987 : BitVec 1 := Scalar.andi v986 v983
  let v988 : BitVec 32 := Scalar.addi v982 v981
  let v989 : BitVec 32 := Scalar.select v987 v988 v982
  let v990 : BitVec 32 := Scalar.addi v978 v989
  let c128_i32_597 : BitVec 32 := 128#32
  let v999 : BitVec 32 := Scalar.muli v990 c128_i32_597
  let v1000 : Index := Scalar.indexCast v999
  let c1408_598 : Index := 1408#32
  ![v1000.toNat, 1408]
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_600 : BitVec 32 := 4#32
  let v1005 : BitVec 32 := Scalar.muli v35 c4_i32_600
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_601 : BitVec 32 := 2#32
  let v1006 : BitVec 32 := Scalar.muli v18 c2_i32_601
  let v1007 : BitVec 32 := Scalar.addi v1005 v1006
  let c1_i32_599 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1004 : BitVec 32 := Scalar.subi c1_i32_599 v16
  let v1008 : BitVec 32 := Scalar.addi v1004 v18
  let c2_i32_602 : BitVec 32 := 2#32
  let c0_i32_603 : BitVec 32 := 0#32
  let v1009 : BitVec 1 := Scalar.cmpi .eq c2_i32_602 c0_i32_603
  let c1_i32_604 : BitVec 32 := 1#32
  let v1010 : BitVec 32 := Scalar.select v1009 c1_i32_604 c2_i32_602
  let v1011 : BitVec 32 := Scalar.remsi v1008 v1010
  let c0_i32_606 : BitVec 32 := 0#32
  let v1013 : BitVec 1 := Scalar.cmpi .slt v1011 c0_i32_606
  let c0_i32_607 : BitVec 32 := 0#32
  let v1014 : BitVec 1 := Scalar.cmpi .slt v1010 c0_i32_607
  let v1015 : BitVec 1 := Scalar.xori v1013 v1014
  let c0_i32_605 : BitVec 32 := 0#32
  let v1012 : BitVec 1 := Scalar.cmpi .ne v1011 c0_i32_605
  let v1016 : BitVec 1 := Scalar.andi v1015 v1012
  let v1017 : BitVec 32 := Scalar.addi v1011 v1010
  let v1018 : BitVec 32 := Scalar.select v1016 v1017 v1011
  let v1019 : BitVec 32 := Scalar.addi v1007 v1018
  let c128_i32_613 : BitVec 32 := 128#32
  let v1028 : BitVec 32 := Scalar.muli v1019 c128_i32_613
  let v1029 : Index := Scalar.indexCast v1028
  let c2816_614 : Index := 2816#32
  ![v1029.toNat, 2816]
def k0_off42 (d0 : Dev nD) : Fin 2 → Nat :=
  let c1_i32_616 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v1034 : BitVec 32 := Scalar.subi c1_i32_616 v35
  let c4_i32_617 : BitVec 32 := 4#32
  let v1035 : BitVec 32 := Scalar.muli v1034 c4_i32_617
  let c1_i32_615 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v1033 : BitVec 32 := Scalar.subi c1_i32_615 v18
  let c2_i32_618 : BitVec 32 := 2#32
  let v1036 : BitVec 32 := Scalar.muli v1033 c2_i32_618
  let v1037 : BitVec 32 := Scalar.addi v1035 v1036
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1038 : BitVec 32 := Scalar.addi v16 v1033
  let c2_i32_619 : BitVec 32 := 2#32
  let c0_i32_620 : BitVec 32 := 0#32
  let v1039 : BitVec 1 := Scalar.cmpi .eq c2_i32_619 c0_i32_620
  let c1_i32_621 : BitVec 32 := 1#32
  let v1040 : BitVec 32 := Scalar.select v1039 c1_i32_621 c2_i32_619
  let v1041 : BitVec 32 := Scalar.remsi v1038 v1040
  let c0_i32_623 : BitVec 32 := 0#32
  let v1043 : BitVec 1 := Scalar.cmpi .slt v1041 c0_i32_623
  let c0_i32_624 : BitVec 32 := 0#32
  let v1044 : BitVec 1 := Scalar.cmpi .slt v1040 c0_i32_624
  let v1045 : BitVec 1 := Scalar.xori v1043 v1044
  let c0_i32_622 : BitVec 32 := 0#32
  let v1042 : BitVec 1 := Scalar.cmpi .ne v1041 c0_i32_622
  let v1046 : BitVec 1 := Scalar.andi v1045 v1042
  let v1047 : BitVec 32 := Scalar.addi v1041 v1040
  let v1048 : BitVec 32 := Scalar.select v1046 v1047 v1041
  let v1049 : BitVec 32 := Scalar.addi v1037 v1048
  let c128_i32_630 : BitVec 32 := 128#32
  let v1058 : BitVec 32 := Scalar.muli v1049 c128_i32_630
  let v1059 : Index := Scalar.indexCast v1058
  let c0_631 : Index := 0#32
  ![v1059.toNat, 0]
def k0_off43 (d0 : Dev nD) : Fin 2 → Nat :=
  let c1_i32_632 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v1063 : BitVec 32 := Scalar.subi c1_i32_632 v35
  let c4_i32_634 : BitVec 32 := 4#32
  let v1065 : BitVec 32 := Scalar.muli v1063 c4_i32_634
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_635 : BitVec 32 := 2#32
  let v1066 : BitVec 32 := Scalar.muli v18 c2_i32_635
  let v1067 : BitVec 32 := Scalar.addi v1065 v1066
  let c1_i32_633 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1064 : BitVec 32 := Scalar.subi c1_i32_633 v16
  let v1068 : BitVec 32 := Scalar.addi v1064 v18
  let c2_i32_636 : BitVec 32 := 2#32
  let c0_i32_637 : BitVec 32 := 0#32
  let v1069 : BitVec 1 := Scalar.cmpi .eq c2_i32_636 c0_i32_637
  let c1_i32_638 : BitVec 32 := 1#32
  let v1070 : BitVec 32 := Scalar.select v1069 c1_i32_638 c2_i32_636
  let v1071 : BitVec 32 := Scalar.remsi v1068 v1070
  let c0_i32_640 : BitVec 32 := 0#32
  let v1073 : BitVec 1 := Scalar.cmpi .slt v1071 c0_i32_640
  let c0_i32_641 : BitVec 32 := 0#32
  let v1074 : BitVec 1 := Scalar.cmpi .slt v1070 c0_i32_641
  let v1075 : BitVec 1 := Scalar.xori v1073 v1074
  let c0_i32_639 : BitVec 32 := 0#32
  let v1072 : BitVec 1 := Scalar.cmpi .ne v1071 c0_i32_639
  let v1076 : BitVec 1 := Scalar.andi v1075 v1072
  let v1077 : BitVec 32 := Scalar.addi v1071 v1070
  let v1078 : BitVec 32 := Scalar.select v1076 v1077 v1071
  let v1079 : BitVec 32 := Scalar.addi v1067 v1078
  let c128_i32_647 : BitVec 32 := 128#32
  let v1088 : BitVec 32 := Scalar.muli v1079 c128_i32_647
  let v1089 : Index := Scalar.indexCast v1088
  let c1408_648 : Index := 1408#32
  ![v1089.toNat, 1408]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_651 : BitVec 32 := 4#32
  let v1095 : BitVec 32 := Scalar.muli v35 c4_i32_651
  let c1_i32_650 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v1094 : BitVec 32 := Scalar.subi c1_i32_650 v18
  let c2_i32_652 : BitVec 32 := 2#32
  let v1096 : BitVec 32 := Scalar.muli v1094 c2_i32_652
  let v1097 : BitVec 32 := Scalar.addi v1095 v1096
  let c1_i32_649 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1093 : BitVec 32 := Scalar.subi c1_i32_649 v16
  let v1098 : BitVec 32 := Scalar.addi v1093 v1094
  let c2_i32_653 : BitVec 32 := 2#32
  let c0_i32_654 : BitVec 32 := 0#32
  let v1099 : BitVec 1 := Scalar.cmpi .eq c2_i32_653 c0_i32_654
  let c1_i32_655 : BitVec 32 := 1#32
  let v1100 : BitVec 32 := Scalar.select v1099 c1_i32_655 c2_i32_653
  let v1101 : BitVec 32 := Scalar.remsi v1098 v1100
  let c0_i32_657 : BitVec 32 := 0#32
  let v1103 : BitVec 1 := Scalar.cmpi .slt v1101 c0_i32_657
  let c0_i32_658 : BitVec 32 := 0#32
  let v1104 : BitVec 1 := Scalar.cmpi .slt v1100 c0_i32_658
  let v1105 : BitVec 1 := Scalar.xori v1103 v1104
  let c0_i32_656 : BitVec 32 := 0#32
  let v1102 : BitVec 1 := Scalar.cmpi .ne v1101 c0_i32_656
  let v1106 : BitVec 1 := Scalar.andi v1105 v1102
  let v1107 : BitVec 32 := Scalar.addi v1101 v1100
  let v1108 : BitVec 32 := Scalar.select v1106 v1107 v1101
  let v1109 : BitVec 32 := Scalar.addi v1097 v1108
  let c128_i32_664 : BitVec 32 := 128#32
  let v1118 : BitVec 32 := Scalar.muli v1109 c128_i32_664
  let v1119 : Index := Scalar.indexCast v1118
  let c2816_665 : Index := 2816#32
  ![v1119.toNat, 2816]
def k0_off45 (d0 : Dev nD) : Fin 2 → Nat :=
  let c1_i32_690 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v1161 : BitVec 32 := Scalar.subi c1_i32_690 v35
  let c4_i32_691 : BitVec 32 := 4#32
  let v1162 : BitVec 32 := Scalar.muli v1161 c4_i32_691
  let c1_i32_689 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v1160 : BitVec 32 := Scalar.subi c1_i32_689 v18
  let c2_i32_692 : BitVec 32 := 2#32
  let v1163 : BitVec 32 := Scalar.muli v1160 c2_i32_692
  let v1164 : BitVec 32 := Scalar.addi v1162 v1163
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1165 : BitVec 32 := Scalar.addi v16 v1160
  let c2_i32_693 : BitVec 32 := 2#32
  let c0_i32_694 : BitVec 32 := 0#32
  let v1166 : BitVec 1 := Scalar.cmpi .eq c2_i32_693 c0_i32_694
  let c1_i32_695 : BitVec 32 := 1#32
  let v1167 : BitVec 32 := Scalar.select v1166 c1_i32_695 c2_i32_693
  let v1168 : BitVec 32 := Scalar.remsi v1165 v1167
  let c0_i32_697 : BitVec 32 := 0#32
  let v1170 : BitVec 1 := Scalar.cmpi .slt v1168 c0_i32_697
  let c0_i32_698 : BitVec 32 := 0#32
  let v1171 : BitVec 1 := Scalar.cmpi .slt v1167 c0_i32_698
  let v1172 : BitVec 1 := Scalar.xori v1170 v1171
  let c0_i32_696 : BitVec 32 := 0#32
  let v1169 : BitVec 1 := Scalar.cmpi .ne v1168 c0_i32_696
  let v1173 : BitVec 1 := Scalar.andi v1172 v1169
  let v1174 : BitVec 32 := Scalar.addi v1168 v1167
  let v1175 : BitVec 32 := Scalar.select v1173 v1174 v1168
  let v1176 : BitVec 32 := Scalar.addi v1164 v1175
  let c128_i32_699 : BitVec 32 := 128#32
  let v1177 : BitVec 32 := Scalar.muli v1176 c128_i32_699
  let c0_i32_706 : BitVec 32 := 0#32
  ![v1177.toNat, 0]
def k0_dev16 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_702 : BitVec 32 := 1#32
  let v1178 : BitVec 32 := Scalar.muli v67 c1_i32_702
  let v1179 : BitVec 32 := Scalar.addi c0_i32_703 v1178
  v1179.toNat
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_730 : BitVec 32 := 4#32
  let v1224 : BitVec 32 := Scalar.muli v35 c4_i32_730
  let c1_i32_729 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v1223 : BitVec 32 := Scalar.subi c1_i32_729 v18
  let c2_i32_731 : BitVec 32 := 2#32
  let v1225 : BitVec 32 := Scalar.muli v1223 c2_i32_731
  let v1226 : BitVec 32 := Scalar.addi v1224 v1225
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1227 : BitVec 32 := Scalar.addi v16 v1223
  let c2_i32_732 : BitVec 32 := 2#32
  let c0_i32_733 : BitVec 32 := 0#32
  let v1228 : BitVec 1 := Scalar.cmpi .eq c2_i32_732 c0_i32_733
  let c1_i32_734 : BitVec 32 := 1#32
  let v1229 : BitVec 32 := Scalar.select v1228 c1_i32_734 c2_i32_732
  let v1230 : BitVec 32 := Scalar.remsi v1227 v1229
  let c0_i32_736 : BitVec 32 := 0#32
  let v1232 : BitVec 1 := Scalar.cmpi .slt v1230 c0_i32_736
  let c0_i32_737 : BitVec 32 := 0#32
  let v1233 : BitVec 1 := Scalar.cmpi .slt v1229 c0_i32_737
  let v1234 : BitVec 1 := Scalar.xori v1232 v1233
  let c0_i32_735 : BitVec 32 := 0#32
  let v1231 : BitVec 1 := Scalar.cmpi .ne v1230 c0_i32_735
  let v1235 : BitVec 1 := Scalar.andi v1234 v1231
  let v1236 : BitVec 32 := Scalar.addi v1230 v1229
  let v1237 : BitVec 32 := Scalar.select v1235 v1236 v1230
  let v1238 : BitVec 32 := Scalar.addi v1226 v1237
  let c128_i32_738 : BitVec 32 := 128#32
  let v1239 : BitVec 32 := Scalar.muli v1238 c128_i32_738
  let c0_i32_746 : BitVec 32 := 0#32
  ![v1239.toNat, 0]
def k0_dev17 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_742 : BitVec 32 := 1#32
  let v1240 : BitVec 32 := Scalar.muli v67 c1_i32_742
  let v1241 : BitVec 32 := Scalar.addi c0_i32_743 v1240
  v1241.toNat
def k0_off47 (d0 : Dev nD) : Fin 2 → Nat :=
  let c1_i32_771 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v1286 : BitVec 32 := Scalar.subi c1_i32_771 v35
  let c4_i32_773 : BitVec 32 := 4#32
  let v1288 : BitVec 32 := Scalar.muli v1286 c4_i32_773
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_774 : BitVec 32 := 2#32
  let v1289 : BitVec 32 := Scalar.muli v18 c2_i32_774
  let v1290 : BitVec 32 := Scalar.addi v1288 v1289
  let c1_i32_772 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1287 : BitVec 32 := Scalar.subi c1_i32_772 v16
  let v1291 : BitVec 32 := Scalar.addi v1287 v18
  let c2_i32_775 : BitVec 32 := 2#32
  let c0_i32_776 : BitVec 32 := 0#32
  let v1292 : BitVec 1 := Scalar.cmpi .eq c2_i32_775 c0_i32_776
  let c1_i32_777 : BitVec 32 := 1#32
  let v1293 : BitVec 32 := Scalar.select v1292 c1_i32_777 c2_i32_775
  let v1294 : BitVec 32 := Scalar.remsi v1291 v1293
  let c0_i32_779 : BitVec 32 := 0#32
  let v1296 : BitVec 1 := Scalar.cmpi .slt v1294 c0_i32_779
  let c0_i32_780 : BitVec 32 := 0#32
  let v1297 : BitVec 1 := Scalar.cmpi .slt v1293 c0_i32_780
  let v1298 : BitVec 1 := Scalar.xori v1296 v1297
  let c0_i32_778 : BitVec 32 := 0#32
  let v1295 : BitVec 1 := Scalar.cmpi .ne v1294 c0_i32_778
  let v1299 : BitVec 1 := Scalar.andi v1298 v1295
  let v1300 : BitVec 32 := Scalar.addi v1294 v1293
  let v1301 : BitVec 32 := Scalar.select v1299 v1300 v1294
  let v1302 : BitVec 32 := Scalar.addi v1290 v1301
  let c128_i32_781 : BitVec 32 := 128#32
  let v1303 : BitVec 32 := Scalar.muli v1302 c128_i32_781
  let c1408_i32_789 : BitVec 32 := 1408#32
  ![v1303.toNat, 1408]
def k0_dev18 (d0 : Dev nD) : Nat :=
  let c0_i32_786 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_785 : BitVec 32 := 1#32
  let v1304 : BitVec 32 := Scalar.muli v83 c1_i32_785
  let v1305 : BitVec 32 := Scalar.addi c0_i32_786 v1304
  v1305.toNat
def k0_off48 (d0 : Dev nD) : Fin 2 → Nat :=
  let c1_i32_813 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v1349 : BitVec 32 := Scalar.subi c1_i32_813 v35
  let c4_i32_814 : BitVec 32 := 4#32
  let v1350 : BitVec 32 := Scalar.muli v1349 c4_i32_814
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_815 : BitVec 32 := 2#32
  let v1351 : BitVec 32 := Scalar.muli v18 c2_i32_815
  let v1352 : BitVec 32 := Scalar.addi v1350 v1351
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1353 : BitVec 32 := Scalar.addi v16 v18
  let c2_i32_816 : BitVec 32 := 2#32
  let c0_i32_817 : BitVec 32 := 0#32
  let v1354 : BitVec 1 := Scalar.cmpi .eq c2_i32_816 c0_i32_817
  let c1_i32_818 : BitVec 32 := 1#32
  let v1355 : BitVec 32 := Scalar.select v1354 c1_i32_818 c2_i32_816
  let v1356 : BitVec 32 := Scalar.remsi v1353 v1355
  let c0_i32_820 : BitVec 32 := 0#32
  let v1358 : BitVec 1 := Scalar.cmpi .slt v1356 c0_i32_820
  let c0_i32_821 : BitVec 32 := 0#32
  let v1359 : BitVec 1 := Scalar.cmpi .slt v1355 c0_i32_821
  let v1360 : BitVec 1 := Scalar.xori v1358 v1359
  let c0_i32_819 : BitVec 32 := 0#32
  let v1357 : BitVec 1 := Scalar.cmpi .ne v1356 c0_i32_819
  let v1361 : BitVec 1 := Scalar.andi v1360 v1357
  let v1362 : BitVec 32 := Scalar.addi v1356 v1355
  let v1363 : BitVec 32 := Scalar.select v1361 v1362 v1356
  let v1364 : BitVec 32 := Scalar.addi v1352 v1363
  let c128_i32_822 : BitVec 32 := 128#32
  let v1365 : BitVec 32 := Scalar.muli v1364 c128_i32_822
  let c1408_i32_830 : BitVec 32 := 1408#32
  ![v1365.toNat, 1408]
def k0_dev19 (d0 : Dev nD) : Nat :=
  let c0_i32_827 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_826 : BitVec 32 := 1#32
  let v1366 : BitVec 32 := Scalar.muli v83 c1_i32_826
  let v1367 : BitVec 32 := Scalar.addi c0_i32_827 v1366
  v1367.toNat
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_857 : BitVec 32 := 4#32
  let v1414 : BitVec 32 := Scalar.muli v35 c4_i32_857
  let c1_i32_856 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v1413 : BitVec 32 := Scalar.subi c1_i32_856 v18
  let c2_i32_858 : BitVec 32 := 2#32
  let v1415 : BitVec 32 := Scalar.muli v1413 c2_i32_858
  let v1416 : BitVec 32 := Scalar.addi v1414 v1415
  let c1_i32_855 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1412 : BitVec 32 := Scalar.subi c1_i32_855 v16
  let v1417 : BitVec 32 := Scalar.addi v1412 v1413
  let c2_i32_859 : BitVec 32 := 2#32
  let c0_i32_860 : BitVec 32 := 0#32
  let v1418 : BitVec 1 := Scalar.cmpi .eq c2_i32_859 c0_i32_860
  let c1_i32_861 : BitVec 32 := 1#32
  let v1419 : BitVec 32 := Scalar.select v1418 c1_i32_861 c2_i32_859
  let v1420 : BitVec 32 := Scalar.remsi v1417 v1419
  let c0_i32_863 : BitVec 32 := 0#32
  let v1422 : BitVec 1 := Scalar.cmpi .slt v1420 c0_i32_863
  let c0_i32_864 : BitVec 32 := 0#32
  let v1423 : BitVec 1 := Scalar.cmpi .slt v1419 c0_i32_864
  let v1424 : BitVec 1 := Scalar.xori v1422 v1423
  let c0_i32_862 : BitVec 32 := 0#32
  let v1421 : BitVec 1 := Scalar.cmpi .ne v1420 c0_i32_862
  let v1425 : BitVec 1 := Scalar.andi v1424 v1421
  let v1426 : BitVec 32 := Scalar.addi v1420 v1419
  let v1427 : BitVec 32 := Scalar.select v1425 v1426 v1420
  let v1428 : BitVec 32 := Scalar.addi v1416 v1427
  let c128_i32_865 : BitVec 32 := 128#32
  let v1429 : BitVec 32 := Scalar.muli v1428 c128_i32_865
  let c2816_i32_873 : BitVec 32 := 2816#32
  ![v1429.toNat, 2816]
def k0_dev20 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_869 : BitVec 32 := 1#32
  let v1430 : BitVec 32 := Scalar.muli v51 c1_i32_869
  let v1431 : BitVec 32 := Scalar.addi c0_i32_870 v1430
  v1431.toNat
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_898 : BitVec 32 := 4#32
  let v1476 : BitVec 32 := Scalar.muli v35 c4_i32_898
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_899 : BitVec 32 := 2#32
  let v1477 : BitVec 32 := Scalar.muli v18 c2_i32_899
  let v1478 : BitVec 32 := Scalar.addi v1476 v1477
  let c1_i32_897 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1475 : BitVec 32 := Scalar.subi c1_i32_897 v16
  let v1479 : BitVec 32 := Scalar.addi v1475 v18
  let c2_i32_900 : BitVec 32 := 2#32
  let c0_i32_901 : BitVec 32 := 0#32
  let v1480 : BitVec 1 := Scalar.cmpi .eq c2_i32_900 c0_i32_901
  let c1_i32_902 : BitVec 32 := 1#32
  let v1481 : BitVec 32 := Scalar.select v1480 c1_i32_902 c2_i32_900
  let v1482 : BitVec 32 := Scalar.remsi v1479 v1481
  let c0_i32_904 : BitVec 32 := 0#32
  let v1484 : BitVec 1 := Scalar.cmpi .slt v1482 c0_i32_904
  let c0_i32_905 : BitVec 32 := 0#32
  let v1485 : BitVec 1 := Scalar.cmpi .slt v1481 c0_i32_905
  let v1486 : BitVec 1 := Scalar.xori v1484 v1485
  let c0_i32_903 : BitVec 32 := 0#32
  let v1483 : BitVec 1 := Scalar.cmpi .ne v1482 c0_i32_903
  let v1487 : BitVec 1 := Scalar.andi v1486 v1483
  let v1488 : BitVec 32 := Scalar.addi v1482 v1481
  let v1489 : BitVec 32 := Scalar.select v1487 v1488 v1482
  let v1490 : BitVec 32 := Scalar.addi v1478 v1489
  let c128_i32_906 : BitVec 32 := 128#32
  let v1491 : BitVec 32 := Scalar.muli v1490 c128_i32_906
  let c2816_i32_914 : BitVec 32 := 2816#32
  ![v1491.toNat, 2816]
def k0_dev21 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_910 : BitVec 32 := 1#32
  let v1492 : BitVec 32 := Scalar.muli v51 c1_i32_910
  let v1493 : BitVec 32 := Scalar.addi c0_i32_911 v1492
  v1493.toNat
def k0_off51 (d0 : Dev nD) : Fin 2 → Nat :=
  let c1_i32_1071 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v1750 : BitVec 32 := Scalar.subi c1_i32_1071 v35
  let c4_i32_1072 : BitVec 32 := 4#32
  let v1751 : BitVec 32 := Scalar.muli v1750 c4_i32_1072
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_1073 : BitVec 32 := 2#32
  let v1752 : BitVec 32 := Scalar.muli v18 c2_i32_1073
  let v1753 : BitVec 32 := Scalar.addi v1751 v1752
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1754 : BitVec 32 := Scalar.addi v16 v18
  let c2_i32_1074 : BitVec 32 := 2#32
  let c0_i32_1075 : BitVec 32 := 0#32
  let v1755 : BitVec 1 := Scalar.cmpi .eq c2_i32_1074 c0_i32_1075
  let c1_i32_1076 : BitVec 32 := 1#32
  let v1756 : BitVec 32 := Scalar.select v1755 c1_i32_1076 c2_i32_1074
  let v1757 : BitVec 32 := Scalar.remsi v1754 v1756
  let c0_i32_1078 : BitVec 32 := 0#32
  let v1759 : BitVec 1 := Scalar.cmpi .slt v1757 c0_i32_1078
  let c0_i32_1079 : BitVec 32 := 0#32
  let v1760 : BitVec 1 := Scalar.cmpi .slt v1756 c0_i32_1079
  let v1761 : BitVec 1 := Scalar.xori v1759 v1760
  let c0_i32_1077 : BitVec 32 := 0#32
  let v1758 : BitVec 1 := Scalar.cmpi .ne v1757 c0_i32_1077
  let v1762 : BitVec 1 := Scalar.andi v1761 v1758
  let v1763 : BitVec 32 := Scalar.addi v1757 v1756
  let v1764 : BitVec 32 := Scalar.select v1762 v1763 v1757
  let v1765 : BitVec 32 := Scalar.addi v1753 v1764
  let c128_i32_1080 : BitVec 32 := 128#32
  let v1766 : BitVec 32 := Scalar.muli v1765 c128_i32_1080
  let c0_i32_1087 : BitVec 32 := 0#32
  ![v1766.toNat, 0]
def k0_dev22 (d0 : Dev nD) : Nat :=
  let c0_i32_1084 : BitVec 32 := 0#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let v68 : BitVec 32 := Scalar.subi c1_i32_31 v35
  let c4_i32_32 : BitVec 32 := 4#32
  let v69 : BitVec 32 := Scalar.muli v68 c4_i32_32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_33 : BitVec 32 := 2#32
  let v70 : BitVec 32 := Scalar.muli v18 c2_i32_33
  let v71 : BitVec 32 := Scalar.addi v69 v70
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v72 : BitVec 32 := Scalar.addi v16 v18
  let c2_i32_34 : BitVec 32 := 2#32
  let c0_i32_35 : BitVec 32 := 0#32
  let v73 : BitVec 1 := Scalar.cmpi .eq c2_i32_34 c0_i32_35
  let c1_i32_36 : BitVec 32 := 1#32
  let v74 : BitVec 32 := Scalar.select v73 c1_i32_36 c2_i32_34
  let v75 : BitVec 32 := Scalar.remsi v72 v74
  let c0_i32_38 : BitVec 32 := 0#32
  let v77 : BitVec 1 := Scalar.cmpi .slt v75 c0_i32_38
  let c0_i32_39 : BitVec 32 := 0#32
  let v78 : BitVec 1 := Scalar.cmpi .slt v74 c0_i32_39
  let v79 : BitVec 1 := Scalar.xori v77 v78
  let c0_i32_37 : BitVec 32 := 0#32
  let v76 : BitVec 1 := Scalar.cmpi .ne v75 c0_i32_37
  let v80 : BitVec 1 := Scalar.andi v79 v76
  let v81 : BitVec 32 := Scalar.addi v75 v74
  let v82 : BitVec 32 := Scalar.select v80 v81 v75
  let v83 : BitVec 32 := Scalar.addi v71 v82
  let c1_i32_1083 : BitVec 32 := 1#32
  let v1767 : BitVec 32 := Scalar.muli v83 c1_i32_1083
  let v1768 : BitVec 32 := Scalar.addi c0_i32_1084 v1767
  v1768.toNat
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_1112 : BitVec 32 := 4#32
  let v1813 : BitVec 32 := Scalar.muli v35 c4_i32_1112
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_1113 : BitVec 32 := 2#32
  let v1814 : BitVec 32 := Scalar.muli v18 c2_i32_1113
  let v1815 : BitVec 32 := Scalar.addi v1813 v1814
  let c1_i32_1111 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1812 : BitVec 32 := Scalar.subi c1_i32_1111 v16
  let v1816 : BitVec 32 := Scalar.addi v1812 v18
  let c2_i32_1114 : BitVec 32 := 2#32
  let c0_i32_1115 : BitVec 32 := 0#32
  let v1817 : BitVec 1 := Scalar.cmpi .eq c2_i32_1114 c0_i32_1115
  let c1_i32_1116 : BitVec 32 := 1#32
  let v1818 : BitVec 32 := Scalar.select v1817 c1_i32_1116 c2_i32_1114
  let v1819 : BitVec 32 := Scalar.remsi v1816 v1818
  let c0_i32_1118 : BitVec 32 := 0#32
  let v1821 : BitVec 1 := Scalar.cmpi .slt v1819 c0_i32_1118
  let c0_i32_1119 : BitVec 32 := 0#32
  let v1822 : BitVec 1 := Scalar.cmpi .slt v1818 c0_i32_1119
  let v1823 : BitVec 1 := Scalar.xori v1821 v1822
  let c0_i32_1117 : BitVec 32 := 0#32
  let v1820 : BitVec 1 := Scalar.cmpi .ne v1819 c0_i32_1117
  let v1824 : BitVec 1 := Scalar.andi v1823 v1820
  let v1825 : BitVec 32 := Scalar.addi v1819 v1818
  let v1826 : BitVec 32 := Scalar.select v1824 v1825 v1819
  let v1827 : BitVec 32 := Scalar.addi v1815 v1826
  let c128_i32_1120 : BitVec 32 := 128#32
  let v1828 : BitVec 32 := Scalar.muli v1827 c128_i32_1120
  let c1408_i32_1128 : BitVec 32 := 1408#32
  ![v1828.toNat, 1408]
def k0_dev23 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_14 : BitVec 32 := 4#32
  let v37 : BitVec 32 := Scalar.muli v35 c4_i32_14
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let c2_i32_15 : BitVec 32 := 2#32
  let v38 : BitVec 32 := Scalar.muli v18 c2_i32_15
  let v39 : BitVec 32 := Scalar.addi v37 v38
  let c1_i32_13 : BitVec 32 := 1#32
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v36 : BitVec 32 := Scalar.subi c1_i32_13 v16
  let v40 : BitVec 32 := Scalar.addi v36 v18
  let c2_i32_16 : BitVec 32 := 2#32
  let c0_i32_17 : BitVec 32 := 0#32
  let v41 : BitVec 1 := Scalar.cmpi .eq c2_i32_16 c0_i32_17
  let c1_i32_18 : BitVec 32 := 1#32
  let v42 : BitVec 32 := Scalar.select v41 c1_i32_18 c2_i32_16
  let v43 : BitVec 32 := Scalar.remsi v40 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let v51 : BitVec 32 := Scalar.addi v39 v50
  let c1_i32_1124 : BitVec 32 := 1#32
  let v1829 : BitVec 32 := Scalar.muli v51 c1_i32_1124
  let v1830 : BitVec 32 := Scalar.addi c0_i32_1125 v1829
  v1830.toNat
def k0_off53 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_1153 : BitVec 32 := 4#32
  let v1875 : BitVec 32 := Scalar.muli v35 c4_i32_1153
  let c1_i32_1152 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v1874 : BitVec 32 := Scalar.subi c1_i32_1152 v18
  let c2_i32_1154 : BitVec 32 := 2#32
  let v1876 : BitVec 32 := Scalar.muli v1874 c2_i32_1154
  let v1877 : BitVec 32 := Scalar.addi v1875 v1876
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v1878 : BitVec 32 := Scalar.addi v16 v1874
  let c2_i32_1155 : BitVec 32 := 2#32
  let c0_i32_1156 : BitVec 32 := 0#32
  let v1879 : BitVec 1 := Scalar.cmpi .eq c2_i32_1155 c0_i32_1156
  let c1_i32_1157 : BitVec 32 := 1#32
  let v1880 : BitVec 32 := Scalar.select v1879 c1_i32_1157 c2_i32_1155
  let v1881 : BitVec 32 := Scalar.remsi v1878 v1880
  let c0_i32_1159 : BitVec 32 := 0#32
  let v1883 : BitVec 1 := Scalar.cmpi .slt v1881 c0_i32_1159
  let c0_i32_1160 : BitVec 32 := 0#32
  let v1884 : BitVec 1 := Scalar.cmpi .slt v1880 c0_i32_1160
  let v1885 : BitVec 1 := Scalar.xori v1883 v1884
  let c0_i32_1158 : BitVec 32 := 0#32
  let v1882 : BitVec 1 := Scalar.cmpi .ne v1881 c0_i32_1158
  let v1886 : BitVec 1 := Scalar.andi v1885 v1882
  let v1887 : BitVec 32 := Scalar.addi v1881 v1880
  let v1888 : BitVec 32 := Scalar.select v1886 v1887 v1881
  let v1889 : BitVec 32 := Scalar.addi v1877 v1888
  let c128_i32_1161 : BitVec 32 := 128#32
  let v1890 : BitVec 32 := Scalar.muli v1889 c128_i32_1161
  let c2816_i32_1169 : BitVec 32 := 2816#32
  ![v1890.toNat, 2816]
def k0_dev24 (d0 : Dev nD) : Nat :=
  let c0_i32_1166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v20 : BitVec 1 := Scalar.cmpi .sgt v2 c0_i32_7
  let v21 : BitVec 32 := Scalar.extui v20
  let c0_i32_8 : BitVec 32 := 0#32
  let v22 : BitVec 1 := Scalar.cmpi .slt v2 c0_i32_8
  let v23 : BitVec 32 := Scalar.extui v22
  let v24 : BitVec 32 := Scalar.subi v21 v23
  let c4_i32_6 : BitVec 32 := 4#32
  let c0_i32_9 : BitVec 32 := 0#32
  let v25 : BitVec 1 := Scalar.cmpi .sgt c4_i32_6 c0_i32_9
  let v26 : BitVec 32 := Scalar.extui v25
  let c0_i32_10 : BitVec 32 := 0#32
  let v27 : BitVec 1 := Scalar.cmpi .slt c4_i32_6 c0_i32_10
  let v28 : BitVec 32 := Scalar.extui v27
  let v29 : BitVec 32 := Scalar.subi v26 v28
  let v30 : BitVec 1 := Scalar.cmpi .ne v24 v29
  let v31 : BitVec 32 := Scalar.remsi v2 c4_i32_6
  let c0_i32_11 : BitVec 32 := 0#32
  let v32 : BitVec 1 := Scalar.cmpi .ne v31 c0_i32_11
  let v33 : BitVec 1 := Scalar.andi v30 v32
  let v19 : BitVec 32 := Scalar.divsi v2 c4_i32_6
  let c1_i32_12 : BitVec 32 := 1#32
  let v34 : BitVec 32 := Scalar.subi v19 c1_i32_12
  let v35 : BitVec 32 := Scalar.select v33 v34 v19
  let c4_i32_23 : BitVec 32 := 4#32
  let v53 : BitVec 32 := Scalar.muli v35 c4_i32_23
  let c1_i32_22 : BitVec 32 := 1#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_5 : BitVec 32 := 2#32
  let v17 : BitVec 1 := Scalar.cmpi .sge v12 c2_i32_5
  let v18 : BitVec 32 := Scalar.extui v17
  let v52 : BitVec 32 := Scalar.subi c1_i32_22 v18
  let c2_i32_24 : BitVec 32 := 2#32
  let v54 : BitVec 32 := Scalar.muli v52 c2_i32_24
  let v55 : BitVec 32 := Scalar.addi v53 v54
  let c1_i32_4 : BitVec 32 := 1#32
  let v13 : BitVec 1 := Scalar.cmpi .eq v12 c1_i32_4
  let c2_i32 : BitVec 32 := 2#32
  let v14 : BitVec 1 := Scalar.cmpi .eq v12 c2_i32
  let v15 : BitVec 1 := Scalar.ori v13 v14
  let v16 : BitVec 32 := Scalar.extui v15
  let v56 : BitVec 32 := Scalar.addi v16 v52
  let c2_i32_25 : BitVec 32 := 2#32
  let c0_i32_26 : BitVec 32 := 0#32
  let v57 : BitVec 1 := Scalar.cmpi .eq c2_i32_25 c0_i32_26
  let c1_i32_27 : BitVec 32 := 1#32
  let v58 : BitVec 32 := Scalar.select v57 c1_i32_27 c2_i32_25
  let v59 : BitVec 32 := Scalar.remsi v56 v58
  let c0_i32_29 : BitVec 32 := 0#32
  let v61 : BitVec 1 := Scalar.cmpi .slt v59 c0_i32_29
  let c0_i32_30 : BitVec 32 := 0#32
  let v62 : BitVec 1 := Scalar.cmpi .slt v58 c0_i32_30
  let v63 : BitVec 1 := Scalar.xori v61 v62
  let c0_i32_28 : BitVec 32 := 0#32
  let v60 : BitVec 1 := Scalar.cmpi .ne v59 c0_i32_28
  let v64 : BitVec 1 := Scalar.andi v63 v60
  let v65 : BitVec 32 := Scalar.addi v59 v58
  let v66 : BitVec 32 := Scalar.select v64 v65 v59
  let v67 : BitVec 32 := Scalar.addi v55 v66
  let c1_i32_1165 : BitVec 32 := 1#32
  let v1891 : BitVec 32 := Scalar.muli v67 c1_i32_1165
  let v1892 : BitVec 32 := Scalar.addi c0_i32_1166 v1891
  v1892.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x8192, .bf16⟩
  | .hbm, ⟨3, _⟩ => ⟨S1024x4096, .f32⟩
  | .hbm, ⟨4, _⟩ => ⟨S1024x4096, .bf16⟩
  | .hbm, ⟨5, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Plan.lean ====
/-
  The kernel's plan: which chunk each device makes, sends and adds, and in which order.

  Eight devices form a cube; a device has one neighbour over each of three axes. The columns fall into three groups, and
  each group halves its chunks three times, over the axes in an order of its own: a device sends the chunks it will not
  keep and adds what its neighbour sent. This file names the chunks, slots and offsets, states the body as a list of
  steps, and gives the printed offsets and devices in closed form.
-/
module

public import proofs.«01_k».proof.Proof.Gen.KernelIdeal
public import proofs.«01_k».proof.Proof.Gen.KernelIdeal.Skeleton
public import Idealize.ShloMosaic.Lib.Tactic

@[expose] public section

noncomputable section

namespace Cert.Gemm

open Cert.KernelIdeal Cert.KernelIdeal.Gen
open Idealize.ShloMosaic Idealize.ShloMosaic.TcCoe Idealize.SL.Sem

variable {F : FTy → Type} [FloatOps F]

/-! ## Devices and chunks -/

/-- The device (or row chunk) whose number is `c`'s with the bits of `k` flipped. -/
def xr (c : Dev nD) (k : Fin 8) : Dev nD := c ^^^ k

/-- The three neighbours of a device differ from it by these bits. -/
def axis : Fin 3 → Fin 8 | 0 => 1 | 1 => 3 | 2 => 4

/-- The axis over which column group `g` exchanges in phase `k`. -/
def ax (g k : Fin 3) : Fin 3 := g + k

/-- The phase of landing slot `s`: slots 0–3, 4–5 and 6. -/
def phase : Fin 7 → Fin 3 | 0 => 0 | 1 => 0 | 2 => 0 | 3 => 0 | 4 => 1 | 5 => 1 | 6 => 2

/-- The axis of the exchange that lands in slot `s` of group `g`. -/
def axs (g : Fin 3) (s : Fin 7) : Fin 3 := ax g (phase s)

/-- The chunk, relative to the device, that the exchange of slot `s` keeps. -/
def keep (g : Fin 3) : Fin 7 → Fin 8
  | 0 => 0 | 1 => axis (ax g 2) | 2 => axis (ax g 1) | 3 => axis (ax g 1) ^^^ axis (ax g 2)
  | 4 => 0 | 5 => axis (ax g 2) | 6 => 0

/-- The chunk, relative to the device, that the exchange of slot `s` sends. -/
def sent (g : Fin 3) (s : Fin 7) : Fin 8 := keep g s ^^^ axis (axs g s)

/-- The partner of `c` in the exchange of slot `s` of group `g`. -/
def peer (g : Fin 3) (s : Fin 7) (c : Dev nD) : Dev nD := xr c (axis (axs g s))

/-! ## Shapes, offsets, memrefs -/

/-- The width of a column group. -/
def wd : Fin 3 → ℕ | 0 => 1408 | 1 => 1408 | 2 => 1280
/-- The first column of a column group. -/
def col : Fin 3 → ℕ | 0 => 0 | 1 => 1408 | 2 => 2816

/-- A chunk of a column group, -/
abbrev SB (g : Fin 3) : Shape := ⟨2, ![128, wd g]⟩
/-- the group's columns of an operand, -/
abbrev SD (g : Fin 3) : Shape := ⟨2, ![1024, wd g]⟩
/-- a landing slot as a slice of its buffer, -/
abbrev SL (g : Fin 3) : Shape := ⟨3, ![1, 128, wd g]⟩
/-- and the landing buffer. -/
abbrev SR (g : Fin 3) : Shape := ⟨3, ![7, 128, wd g]⟩

/-- The shapes are not empty, and a chunk is cast to itself, an operand to itself and a landing slot to a chunk. -/
theorem pos_SB (g : Fin 3) : 0 < (SB g).numel := by revert g; decide +kernel
theorem pos_SD (g : Fin 3) : 0 < (SD g).numel := by revert g; decide +kernel
theorem pos_SL (g : Fin 3) : 0 < (SL g).numel := by revert g; decide +kernel
theorem cast_SB (g : Fin 3) : (SB g).ShapeCasts (SB g) := by revert g; decide +kernel
theorem cast_SD (g : Fin 3) : (SD g).ShapeCasts (SD g) := by revert g; decide +kernel
theorem cast_SL (g : Fin 3) : (SL g).ShapeCasts (SB g) := by revert g; decide +kernel
theorem sq_SL (g : Fin 3) : (SL g).Squeezes (SB g) := by revert g; decide +kernel

/-- Where chunk `q` of group `g` lies in the accumulator, -/
def aoff (g : Fin 3) (q : Dev nD) : Fin 2 → ℕ := ![128 * q.val, col g]
/-- where the columns of `x` that make the rows of chunk `q` lie, -/
def xoff (q : Dev nD) : Fin 2 → ℕ := ![0, 128 * q.val]
/-- where the columns of group `g` lie, -/
def doff (g : Fin 3) : Fin 2 → ℕ := ![0, col g]
/-- where landing slot `s` lies, -/
def soff (s : Fin 7) : Fin 3 → ℕ := ![s.val, 0, 0]
/-- and its semaphore. -/
def eoff (s : Fin 7) : Fin 1 → ℕ := ![s.val]

/-- Every offset keeps its block inside its buffer; -/
theorem aoff_inb (g : Fin 3) (q : Dev nD) : ∀ a, aoff g q a + (SB g).size a ≤ S1024x4096.size a := by
  revert g q; decide +kernel
theorem xoff_inb (q : Dev nD) : ∀ a, xoff q a + S1024x128.size a ≤ S1024x1024.size a := by revert q; decide +kernel
theorem doff_inb (g : Fin 3) : ∀ a, doff g a + (SD g).size a ≤ S1024x4096.size a := by revert g; decide +kernel
theorem ooff_inb (g : Fin 3) : ∀ a, doff g a + (SB g).size a ≤ S128x4096.size a := by revert g; decide +kernel
theorem soff_inb (g : Fin 3) (s : Fin 7) : ∀ a, soff s a + (SL g).size a ≤ (SR g).size a := by revert g s; decide +kernel
theorem eoff_inb (s : Fin 7) : ∀ a, eoff s a + S1.size a ≤ S7.size a := by revert s; decide +kernel

/-- and every block is made of whole packed rows, or of whole words, as its access asks. -/
theorem aoff_packed (g : Fin 3) (q : Dev nD) :
    (Rect.unit (s := S1024x4096) (aoff g q) (SB g).size (aoff_inb g q)).PackedRows (EltTy.packing .bf16) := by
  revert g q; decide +kernel
theorem aoff_words (g : Fin 3) (q : Dev nD) :
    (Rect.unit (s := S1024x4096) (aoff g q) (SB g).size (aoff_inb g q)).WholeWords (EltTy.packing .bf16) := by
  revert g q; decide +kernel
theorem soff_words (g : Fin 3) (s : Fin 7) :
    (Rect.unit (s := SR g) (soff s) (SL g).size (soff_inb g s)).WholeWords (EltTy.packing .bf16) := by
  revert g s; decide +kernel
theorem ooff_packed (g : Fin 3) :
    (Rect.unit (s := S128x4096) (doff g) (SB g).size (ooff_inb g)).PackedRows (EltTy.packing .f32) := by
  revert g; decide +kernel

/-- The staged blocks of the two operands and of the result, and the accumulator. -/
abbrev xM : Memref sig .tc .vmem S1024x1024 .bf16 := Memref.whole cc0_stg0_0
abbrev dM : Memref sig .tc .vmem S1024x4096 .bf16 := Memref.whole cc0_stg1_0
abbrev oM : Memref sig .tc .vmem S128x4096 .f32 := Memref.whole cc0_stg2_0
abbrev aM : Memref sig .tc .vmem S1024x4096 .bf16 := Memref.whole cc0_scratch0
/-- The landing buffer of group `g`. -/
def rM : (g : Fin 3) → Memref sig .tc .vmem (SR g) .bf16
  | 0 => Memref.whole cc0_scratch1 | 1 => Memref.whole cc0_scratch2 | 2 => Memref.whole cc0_scratch3
/-- Each landing buffer is a whole buffer. -/
theorem rM_whole (g : Fin 3) : (rM g).IsWhole := by
  match g with
  | 0 => exact Memref.isWhole_whole _
  | 1 => exact Memref.isWhole_whole _
  | 2 => exact Memref.isWhole_whole _

/-- The rectangle of chunk `q`, of a landing slot, and of a group's columns of the result. -/
abbrev aR (g : Fin 3) (q : Dev nD) : Rect S1024x4096 := Rect.unit (s := S1024x4096) (aoff g q) (SB g).size (aoff_inb g q)
abbrev sR (g : Fin 3) (s : Fin 7) : Rect (SR g) := Rect.unit (s := SR g) (soff s) (SL g).size (soff_inb g s)
abbrev oR (g : Fin 3) : Rect S128x4096 := Rect.unit (s := S128x4096) (doff g) (SB g).size (ooff_inb g)
abbrev xR (q : Dev nD) : Rect S1024x1024 := Rect.unit (s := S1024x1024) (xoff q) S1024x128.size (xoff_inb q)
abbrev dR (g : Fin 3) : Rect S1024x4096 := Rect.unit (s := S1024x4096) (doff g) (SD g).size (doff_inb g)

/-- Chunk `q` of group `g` in the accumulator, -/
abbrev chunk (g : Fin 3) (q : Dev nD) : Memref sig .tc .vmem (SB g) .bf16 := aM.slice (aR g q) (fun _ => rfl)
/-- and landing slot `s` of group `g`. -/
abbrev slot (g : Fin 3) (s : Fin 7) : Memref sig .tc .vmem (SB g) .bf16 :=
  ((rM g).slice (sR g s) (fun _ => rfl)).squeeze (SB g) (sq_SL g)

/-- Chunks and slots are made of whole words, so a copy moves exactly their elements. -/
theorem chunk_exact (g : Fin 3) (q : Dev nD) : (chunk g q).view.WordExact :=
  (Memref.isWhole_whole cc0_scratch0).wordExact_slice rfl _ (aoff_words g q)
theorem slot_exact (g : Fin 3) (s : Fin 7) : (slot g s).view.WordExact :=
  ((rM_whole g).wordExact_slice rfl _ (soff_words g s)).reshape _ _

/-- The send semaphores of group `g`, -/
def ssA : Fin 3 → DmaSems sig S7 | 0 => cc0_scratch4 | 1 => cc0_scratch6 | 2 => cc0_scratch8
/-- its receive semaphores, -/
def rsA : Fin 3 → DmaSems sig S7 | 0 => cc0_scratch5 | 1 => cc0_scratch7 | 2 => cc0_scratch9
/-- and the one of slot `s` of either. -/
def semAt (A : DmaSems sig S7) (s : Fin 7) : DmaSem sig :=
  ((A.slice (Rect.unit (s := S7) (eoff s) S1.size (eoff_inb s))).squeeze S_ squeezes_S1_S_).sem
abbrev sS (g : Fin 3) (s : Fin 7) : SemLoc sig := .dma (semAt (ssA g) s)
abbrev rS (g : Fin 3) (s : Fin 7) : SemLoc sig := .dma (semAt (rsA g) s)
/-- The barrier semaphore. -/
abbrev barS : Sem sig := (SemArray.scalar (sig.barrier 0 rfl) : Sems sig S_).sem

/-! ## The values -/

/-- The product that makes a chunk: a group's columns of `dy` against the columns of `x` of a chunk. -/
def dotG : (g : Fin 3) → DotDims S1024x128 (SD g) (SB g)
  | 0 => dot_S1024x128_S1024x1408_S128x1408_0_0_1_1_n_n
  | 1 => dot_S1024x128_S1024x1408_S128x1408_0_0_1_1_n_n
  | 2 => dot_S1024x128_S1024x1280_S128x1280_0_0_1_1_n_n

/-- A device's partial product, rounded. -/
def mmPay (g : Fin 3) (x : Vec F S1024x128 .bf16) (y : Vec F (SD g) .bf16) : FVec F (SB g) .bf16 :=
  shapeCast (SB g) (truncf .bf16 (matmul (dotG g) none (shapeCast S1024x128 x shapeCasts_S1024x128_S1024x128)
    (shapeCast (SD g) y (cast_SD g)) (constant (SB g) .f32 0x00000000#32)) bitsLt_bf16_f32) (cast_SB g)

/-- The sum of two partial sums, unrounded, -/
def addPay (g : Fin 3) (a b : FVec F (SB g) .bf16) : FVec F (SB g) .f32 :=
  addf (extf .f32 a bitsLt_bf16_f32) (extf .f32 b bitsLt_bf16_f32)
/-- and rounded. -/
def foldPay (g : Fin 3) (a b : FVec F (SB g) .bf16) : FVec F (SB g) .bf16 :=
  shapeCast (SB g) (truncf .bf16 (addPay g a b) bitsLt_bf16_f32) (cast_SB g)
/-- What a landing slot is read as. -/
def asChunk (g : Fin 3) (v : Vec F (SL g) .bf16) : FVec F (SB g) .bf16 := shapeCast (SB g) v (cast_SL g)

/-! ## The steps -/

/-- A kernel program that returns nothing. -/
abbrev KProg (F : FTy → Type) := Prog (TpuEff nD τ sig (Elt F) Λ₀ .tc) PUnit

/-- Make a chunk: load the operands, (read the chunk,) store the product. -/
def mmStep (g : Fin 3) (q : Dev nD) (ox oa : Fin 2 → ℕ) (hx : ox = xoff q) (ha : oa = aoff g q) : KProg F := do
  let x : Vec F S1024x128 .bf16 ← Prog.lift (.load xM (Rect.unit (s := S1024x1024) ox S1024x128.size (hx ▸ xoff_inb q)).toLoadRect (View.loadsAt_vmem h_S1024x128))
  let y : Vec F (SD g) .bf16 ← Prog.lift (.load dM (dR g).toLoadRect (View.loadsAt_vmem (pos_SD g)))
  let _ : Vec F (SB g) .bf16 ← Prog.lift (.load aM (Rect.unit (s := S1024x4096) oa (SB g).size (ha ▸ aoff_inb g q)).toLoadRect (View.loadsAt_vmem (pos_SB g)))
  Prog.lift (.store aM (Rect.unit (s := S1024x4096) oa (SB g).size (ha ▸ aoff_inb g q)) (mmPay g x y) Finset.univ
    (View.stores_vmem (pos_SB g) ((Memref.isWhole_whole cc0_scratch0).storeExact_slice rfl _ (by subst ha; exact aoff_packed g q)) (fun _ => rfl)) (.inl rfl))

/-- Send a chunk of the accumulator to slot `s` of the peer. -/
def sendStep (g : Fin 3) (s : Fin 7) (q : Dev nD) (o : Fin 2 → ℕ) (ho : o = aoff g q) (n : Dev nD) : KProg F :=
  Prog.lift (.enqueueDma (aM.slice (Rect.unit (s := S1024x4096) o (SB g).size (ho ▸ aoff_inb g q)) (fun _ => rfl))
    (.remote (Dev.tc n) (slot g s) (sS g s)) (rS g s)
    ((Memref.isWhole_whole cc0_scratch0).wordExact_slice rfl _ (by subst ho; exact aoff_words g q)) (slot_exact g s)
    ⟨⟨rfl, Or.inl rfl⟩, trivial⟩)

/-- Wait for what lands in slot `s`. -/
def recvStep (g : Fin 3) (s : Fin 7) (q : Dev nD) (o : Fin 2 → ℕ) (ho : o = aoff g q) : KProg F :=
  Prog.lift (.waitDma2 (semAt (rsA g) s) (aM.slice (Rect.unit (s := S1024x4096) o (SB g).size (ho ▸ aoff_inb g q)) (fun _ => rfl)) (slot g s)
    ((Memref.isWhole_whole cc0_scratch0).wordExact_slice rfl _ (by subst ho; exact aoff_words g q)) (slot_exact g s))

/-- Wait for the departure of the chunk sent from slot `s`. -/
def doneStep (g : Fin 3) (s : Fin 7) (q : Dev nD) (o : Fin 2 → ℕ) (ho : o = aoff g q) : KProg F :=
  Prog.lift (.waitDma2 (semAt (ssA g) s) (slot g s) (aM.slice (Rect.unit (s := S1024x4096) o (SB g).size (ho ▸ aoff_inb g q)) (fun _ => rfl))
    (slot_exact g s) ((Memref.isWhole_whole cc0_scratch0).wordExact_slice rfl _ (by subst ho; exact aoff_words g q)))

/-- Add slot `s` to the chunk that its exchange keeps. -/
def foldStep (g : Fin 3) (s : Fin 7) (q : Dev nD) (oa : Fin 2 → ℕ) (ha : oa = aoff g q) : KProg F := do
  let a : Vec F (SB g) .bf16 ← Prog.lift (.load aM (Rect.unit (s := S1024x4096) oa (SB g).size (ha ▸ aoff_inb g q)).toLoadRect (View.loadsAt_vmem (pos_SB g)))
  let v : Vec F (SL g) .bf16 ← Prog.lift (.load (rM g) (sR g s).toLoadRect (View.loadsAt_vmem (pos_SL g)))
  let _ : Vec F (SB g) .bf16 ← Prog.lift (.load aM (Rect.unit (s := S1024x4096) oa (SB g).size (ha ▸ aoff_inb g q)).toLoadRect (View.loadsAt_vmem (pos_SB g)))
  Prog.lift (.store aM (Rect.unit (s := S1024x4096) oa (SB g).size (ha ▸ aoff_inb g q)) (foldPay g a (asChunk g v)) Finset.univ
    (View.stores_vmem (pos_SB g) ((Memref.isWhole_whole cc0_scratch0).storeExact_slice rfl _ (by subst ha; exact aoff_packed g q)) (fun _ => rfl)) (.inl rfl))

/-- Add the last slot to the device's own chunk and store the sum as the result's columns. -/
def lastStep (g : Fin 3) (q : Dev nD) (oa : Fin 2 → ℕ) (ha : oa = aoff g q) : KProg F := do
  let a : Vec F (SB g) .bf16 ← Prog.lift (.load aM (Rect.unit (s := S1024x4096) oa (SB g).size (ha ▸ aoff_inb g q)).toLoadRect (View.loadsAt_vmem (pos_SB g)))
  let v : Vec F (SL g) .bf16 ← Prog.lift (.load (rM g) (sR g 6).toLoadRect (View.loadsAt_vmem (pos_SL g)))
  let _ : Vec F (SB g) .f32 ← Prog.lift (.load oM (oR g).toLoadRect (View.loadsAt_vmem (pos_SB g)))
  Prog.lift (.store oM (oR g) (addPay g a (asChunk g v)) Finset.univ
    (View.stores_vmem (pos_SB g) ((Memref.isWhole_whole cc0_stg2_0).storeExact_slice rfl _ (ooff_packed g)) (fun _ => rfl)) (.inl rfl))

/-! ## The printed offsets and devices, step by step -/

/-- The offsets of the chunks sent, as printed. -/
def offS (c : Dev nD) : Fin 3 → Fin 7 → Fin 2 → ℕ
  | 0, 0 => k0_off19 c | 0, 1 => k0_off27 c | 0, 2 => k0_off10 c | 0, 3 => k0_off3 c | 0, 4 => k0_off46 c | 0, 5 => k0_off45 c | 0, 6 => k0_off51 c
  | 1, 0 => k0_off22 c | 1, 1 => k0_off29 c | 1, 2 => k0_off13 c | 1, 3 => k0_off5 c | 1, 4 => k0_off48 c | 1, 5 => k0_off47 c | 1, 6 => k0_off52 c
  | 2, 0 => k0_off25 c | 2, 1 => k0_off31 c | 2, 2 => k0_off16 c | 2, 3 => k0_off7 c | 2, 4 => k0_off50 c | 2, 5 => k0_off49 c | 2, 6 => k0_off53 c
/-- The offsets of the chunks kept, as printed. -/
def offK (c : Dev nD) : Fin 3 → Fin 7 → Fin 2 → ℕ
  | 0, 0 => k0_off33 c | 0, 1 => k0_off36 c | 0, 2 => k0_off39 c | 0, 3 => k0_off42 c | 0, 4 => k0_off33 c | 0, 5 => k0_off36 c | 0, 6 => k0_off33 c
  | 1, 0 => k0_off34 c | 1, 1 => k0_off37 c | 1, 2 => k0_off40 c | 1, 3 => k0_off43 c | 1, 4 => k0_off34 c | 1, 5 => k0_off37 c | 1, 6 => k0_off34 c
  | 2, 0 => k0_off35 c | 2, 1 => k0_off38 c | 2, 2 => k0_off41 c | 2, 3 => k0_off44 c | 2, 4 => k0_off35 c | 2, 5 => k0_off38 c | 2, 6 => k0_off35 c
/-- The offsets at which the chunks sent in phase 0 are made, -/
def offM (c : Dev nD) : Fin 3 → Fin 4 → Fin 2 → ℕ
  | 0, 0 => k0_off18 c | 0, 1 => k0_off26 c | 0, 2 => k0_off9 c | 0, 3 => k0_off2 c
  | 1, 0 => k0_off21 c | 1, 1 => k0_off28 c | 1, 2 => k0_off12 c | 1, 3 => k0_off4 c
  | 2, 0 => k0_off24 c | 2, 1 => k0_off30 c | 2, 2 => k0_off15 c | 2, 3 => k0_off6 c
/-- and those of the columns of `x` that make them, -/
def offX (c : Dev nD) : Fin 3 → Fin 4 → Fin 2 → ℕ
  | 0, 0 => k0_off17 c | 0, 1 => k0_off14 c | 0, 2 => k0_off8 c | 0, 3 => k0_off1 c
  | 1, 0 => k0_off20 c | 1, 1 => k0_off8 c | 1, 2 => k0_off11 c | 1, 3 => k0_off1 c
  | 2, 0 => k0_off23 c | 2, 1 => k0_off11 c | 2, 2 => k0_off14 c | 2, 3 => k0_off1 c
/-- or that make the chunks kept. -/
def offY (c : Dev nD) : Fin 3 → Fin 4 → Fin 2 → ℕ
  | 0, 0 => k0_off32 c | 0, 1 => k0_off23 c | 0, 2 => k0_off20 c | 0, 3 => k0_off11 c
  | 1, 0 => k0_off32 c | 1, 1 => k0_off17 c | 1, 2 => k0_off23 c | 1, 3 => k0_off14 c
  | 2, 0 => k0_off32 c | 2, 1 => k0_off20 c | 2, 2 => k0_off17 c | 2, 3 => k0_off8 c
/-- The devices sent to, as printed. -/
def devS (c : Dev nD) : Fin 3 → Fin 7 → Dev nD
  | 0, 0 => ⟨k0_dev10 c, k0_dev10_lt c⟩ | 0, 1 => ⟨k0_dev13 c, k0_dev13_lt c⟩ | 0, 2 => ⟨k0_dev7 c, k0_dev7_lt c⟩ | 0, 3 => ⟨k0_dev4 c, k0_dev4_lt c⟩
  | 0, 4 => ⟨k0_dev17 c, k0_dev17_lt c⟩ | 0, 5 => ⟨k0_dev16 c, k0_dev16_lt c⟩ | 0, 6 => ⟨k0_dev22 c, k0_dev22_lt c⟩
  | 1, 0 => ⟨k0_dev11 c, k0_dev11_lt c⟩ | 1, 1 => ⟨k0_dev14 c, k0_dev14_lt c⟩ | 1, 2 => ⟨k0_dev8 c, k0_dev8_lt c⟩ | 1, 3 => ⟨k0_dev5 c, k0_dev5_lt c⟩
  | 1, 4 => ⟨k0_dev19 c, k0_dev19_lt c⟩ | 1, 5 => ⟨k0_dev18 c, k0_dev18_lt c⟩ | 1, 6 => ⟨k0_dev23 c, k0_dev23_lt c⟩
  | 2, 0 => ⟨k0_dev12 c, k0_dev12_lt c⟩ | 2, 1 => ⟨k0_dev15 c, k0_dev15_lt c⟩ | 2, 2 => ⟨k0_dev9 c, k0_dev9_lt c⟩ | 2, 3 => ⟨k0_dev6 c, k0_dev6_lt c⟩
  | 2, 4 => ⟨k0_dev21 c, k0_dev21_lt c⟩ | 2, 5 => ⟨k0_dev20 c, k0_dev20_lt c⟩ | 2, 6 => ⟨k0_dev24 c, k0_dev24_lt c⟩
/-- The devices signalled, as printed. -/
def devB (c : Dev nD) : Fin 3 → Dev nD
  | 0 => ⟨k0_dev1 c, k0_dev1_lt c⟩ | 1 => ⟨k0_dev2 c, k0_dev2_lt c⟩ | 2 => ⟨k0_dev3 c, k0_dev3_lt c⟩

/-- A slot of phase 0 among all slots. -/
abbrev up (i : Fin 4) : Fin 7 := ⟨i.val, by omega⟩

/-- The printed offset or device of each step, in closed form: where a send starts, -/
theorem offS_eq (c : Dev nD) (g : Fin 3) (s : Fin 7) : offS c g s = aoff g (xr c (sent g s)) := by
  revert c g s; decide +kernel
/-- where what landed is added, -/
theorem offK_eq (c : Dev nD) (g : Fin 3) (s : Fin 7) : offK c g s = aoff g (xr c (keep g s)) := by
  revert c g s; decide +kernel
/-- where a partial product is written, -/
theorem offM_eq (c : Dev nD) (g : Fin 3) (i : Fin 4) : offM c g i = aoff g (xr c (sent g (up i))) := by
  revert c g i; decide +kernel
/-- which columns of `x` make a chunk sent, -/
theorem offX_eq (c : Dev nD) (g : Fin 3) (i : Fin 4) : offX c g i = xoff (xr c (sent g (up i))) := by
  revert c g i; decide +kernel
/-- which make a chunk kept, -/
theorem offY_eq (c : Dev nD) (g : Fin 3) (i : Fin 4) : offY c g i = xoff (xr c (keep g (up i))) := by
  revert c g i; decide +kernel
/-- to whom a copy goes, -/
theorem devS_eq (c : Dev nD) (g : Fin 3) (s : Fin 7) : devS c g s = peer g s c := by
  revert c g s; decide +kernel
/-- and whom the handshake signals. -/
theorem devB_eq (c : Dev nD) (a : Fin 3) : devB c a = xr c (axis a) := by
  revert c a; decide +kernel

end Cert.Gemm

end
-- ==== Proof.Steps.lean ====
/-
  The body as printed is the listed steps.
-/
module

public import proofs.«01_k».proof.Proof.Plan

@[expose] public section

noncomputable section

namespace Cert.Gemm

open Cert.KernelIdeal Cert.KernelIdeal.Gen
open Idealize.ShloMosaic Idealize.ShloMosaic.TcCoe Idealize.SL.Sem

variable {F : FTy → Type} [FloatOps F]

/-- The program `p` followed by `k`. -/
abbrev andThen (p k : KProg F) : KProg F := p >>= fun _ => k

/-- A step for every element of a list, in order, and then `k`. -/
def seqs {A : Type} (f : A → KProg F → KProg F) (l : List A) (k : KProg F) : KProg F := l.foldr f k

/-- Phase 0, the chunks sent: make a chunk and send it. -/
def stepA (c : Dev nD) (t : Fin 3 × Fin 4) (k : KProg F) : KProg F :=
  andThen (mmStep t.1 _ _ _ (offX_eq c t.1 t.2) (offM_eq c t.1 t.2))
    (andThen (sendStep t.1 (up t.2) _ _ (offS_eq c t.1 (up t.2)) (devS c t.1 (up t.2))) k)
/-- Phase 0, the chunks kept: make a chunk. -/
def stepB (c : Dev nD) (t : Fin 3 × Fin 4) (k : KProg F) : KProg F :=
  andThen (mmStep t.1 _ _ _ (offY_eq c t.1 t.2) (offK_eq c t.1 (up t.2))) k
/-- Receive what lands in a slot and add it to the chunk kept. -/
def stepC (c : Dev nD) (t : Fin 3 × Fin 7) (k : KProg F) : KProg F :=
  andThen (recvStep t.1 t.2 _ _ (offS_eq c t.1 t.2)) (andThen (foldStep t.1 t.2 _ _ (offK_eq c t.1 t.2)) k)
/-- The same, and send the sum on to slot `t.2.2`. -/
def stepD (c : Dev nD) (t : Fin 3 × Fin 7 × Fin 7) (k : KProg F) : KProg F :=
  stepC c (t.1, t.2.1) (andThen (sendStep t.1 t.2.2 _ _ (offS_eq c t.1 t.2.2) (devS c t.1 t.2.2)) k)
/-- Receive what lands in the last slot and store the result's columns. -/
def stepE (c : Dev nD) (g : Fin 3) (k : KProg F) : KProg F :=
  andThen (recvStep g 6 _ _ (offS_eq c g 6)) (andThen (lastStep g _ _ (offK_eq c g 6)) k)
/-- Wait for a departure. -/
def stepW (c : Dev nD) (t : Fin 3 × Fin 7) (k : KProg F) : KProg F :=
  andThen (doneStep t.1 t.2 _ _ (offS_eq c t.1 t.2)) k

def listA : List (Fin 3 × Fin 4) := [(0, 3), (1, 3), (2, 3), (0, 2), (1, 2), (2, 2), (0, 0), (1, 0), (2, 0), (0, 1), (1, 1), (2, 1)]
def listB : List (Fin 3 × Fin 4) := [(0, 0), (1, 0), (2, 0), (0, 1), (1, 1), (2, 1), (0, 2), (1, 2), (2, 2), (0, 3), (1, 3), (2, 3)]
def listD : List (Fin 3 × Fin 7 × Fin 7) := [(0, 3, 5), (0, 2, 4), (1, 3, 5), (1, 2, 4), (2, 3, 5), (2, 2, 4)]
def listC : List (Fin 3 × Fin 7) := [(0, 0), (0, 1), (1, 0), (1, 1), (2, 0), (2, 1)]
def listD' : List (Fin 3 × Fin 7 × Fin 7) := [(0, 5, 6), (1, 5, 6), (2, 5, 6)]
def listC' : List (Fin 3 × Fin 7) := [(0, 4), (1, 4), (2, 4)]
def listE : List (Fin 3) := [0, 1, 2]
def listW : List (Fin 3 × Fin 7) := [(0, 0), (0, 1), (0, 2), (0, 3), (1, 0), (1, 1), (1, 2), (1, 3), (2, 0), (2, 1), (2, 2), (2, 3),
  (0, 4), (0, 5), (1, 4), (1, 5), (2, 4), (2, 5), (0, 6), (1, 6), (2, 6)]

/-- The handshake on the barrier semaphore. -/
def handshake (c : Dev nD) (k : KProg F) : KProg F :=
  andThen (semSignalWord (devB c 0) barS 1#32) (andThen (semSignalWord (devB c 1) barS 1#32)
    (andThen (semSignalWord (devB c 2) barS 1#32) (andThen (semWaitWord barS 3#32) k)))

/-- The kernel's body on device `c`, step by step. -/
def prog (c : Dev nD) : KProg F :=
  handshake c (seqs (stepA c) listA (seqs (stepB c) listB (seqs (stepD c) listD (seqs (stepC c) listC (seqs (stepD c) listD'
    (seqs (stepC c) listC' (seqs (stepE c) listE (seqs (stepW c) listW (.ret ⟨⟩)))))))))

set_option maxRecDepth 20000 in
set_option maxHeartbeats 0 in
/-- The translated body is this program. -/
theorem body_eq : cc0_body (F := F) xM (Memref.isWhole_whole _) dM (Memref.isWhole_whole _) oM (Memref.isWhole_whole _) aM (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9
    = (Prog.lift .deviceId >>= fun c => prog c) := by
  simp only [cc0_body_eq_skeleton, cc0_body_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton,
    k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel, k0_part13_eq_skeleton,
    k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton,
    k0_part20_skel, k0_part21_eq_skeleton, k0_part21_skel, k0_part22_eq_skeleton, k0_part22_skel, k0_part23_eq_skeleton, k0_part23_skel,
    k0_part24_eq_skeleton, k0_part24_skel, k0_part25_eq_skeleton, k0_part25_skel, k0_part26_eq_skeleton, k0_part26_skel, k0_part27_eq_skeleton,
    k0_part27_skel, k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel, k0_part34_eq_skeleton,
    k0_part34_skel, k0_part35_eq_skeleton, k0_part35_skel, k0_part36_eq_skeleton, k0_part36_skel, k0_part37_eq_skeleton, k0_part37_skel,
    k0_part38_eq_skeleton, k0_part38_skel, k0_part39_eq_skeleton, k0_part39_skel, k0_part40_eq_skeleton, k0_part40_skel, k0_part41_eq_skeleton,
    k0_part41_skel, k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel, k0_part48_eq_skeleton,
    k0_part48_skel, k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel, k0_part55_eq_skeleton,
    k0_part55_skel, k0_part56_eq_skeleton, k0_part56_skel, k0_part57_eq_skeleton, k0_part57_skel, k0_part58_eq_skeleton, k0_part58_skel,
    k0_part59_eq_skeleton, k0_part59_skel, k0_part60_eq_skeleton, k0_part60_skel, k0_part61_eq_skeleton, k0_part61_skel, k0_part62_eq_skeleton,
    k0_part62_skel, k0_part63_eq_skeleton, k0_part63_skel, k0_part64_eq_skeleton, k0_part64_skel, Prog.bind_lift, Prog.bind_ret, Prog.bind_op,
    Prog.pure_eq_ret, semSignalWord, semWaitWord, Prog.lift]
  simp only [prog, handshake, seqs, listA, listB, listC, listD, listC', listD', listE, listW, List.foldr, stepA, stepB, stepC, stepD, stepE, stepW, andThen,
    mmStep, sendStep, recvStep, doneStep, foldStep, lastStep,
    Prog.bind_lift, Prog.bind_ret, Prog.bind_op, Prog.pure_eq_ret, semSignalWord, semWaitWord, Prog.lift]
  rfl

end Cert.Gemm

end
-- ==== Proof.Common.lean ====
/-
  The protocol: the cells, who pays each of them, what each payment hands over, and in what order devices wait.

  A device's barrier is paid by its three neighbours, each of which hands over the landing slots that the device will
  write. A landing's cell is paid by the copy, which hands over the slot at the sender's chunk; a send's cell gives the
  chunk back. A device waits only below what it still owes: barrier first, then the landings phase by phase.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.Rounds

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The duties of the cells -/

/-- A duty: of the barrier cell, by the axis of the neighbour that pays it; of a transfer cell — a send cell (`false`) or a
    receive cell (`true`) of a slot of a group —, one duty each. -/
abbrev Duty : Type := Fin 3 ⊕ (Bool × Fin 3 × Fin 7)

abbrev UB : Type := URounds (GSem nD τ sig) Duty
abbrev UU : Type := UR sig nD τ × UB

local notation "𝕄" => MT nD τ sig Unit (Elt F) ℕ UU ℕ

/-- The staging pipeline's part of the ghost state, -/
abbrev EP : Emb (UR sig nD τ) (MT nD τ sig Unit (Elt F) ℕ UU ℕ) := embL
/-- and the exchange's. -/
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## Neighbours -/

/-- A neighbour's neighbour over one axis is the device itself. -/
theorem xr_xr (c : Dev nD) (k : Fin 8) : xr (xr c k) k = c := by revert c k; decide +kernel
theorem peer_peer (g : Fin 3) (s : Fin 7) (c : Dev nD) : peer g s (peer g s c) = c := xr_xr c _
/-- What the peer sends into a slot is the chunk its owner keeps. -/
theorem peer_sent (g : Fin 3) (s : Fin 7) (c : Dev nD) : xr (peer g s c) (sent g s) = xr c (keep g s) := by
  revert g s c; decide +kernel

/-- Going to the neighbour, as a permutation of the devices. -/
def xrE (k : Fin 8) : Dev nD ≃ Dev nD := ⟨fun c => xr c k, fun c => xr c k, fun c => xr_xr c k, fun c => xr_xr c k⟩

/-- The chunks of a group as a device names them: the seven it sends, by slot, and its own. -/
def mk (g : Fin 3) : Fin 8 → Fin 8
  | 0 => sent g 0 | 1 => sent g 1 | 2 => sent g 2 | 3 => sent g 3 | 4 => sent g 4 | 5 => sent g 5 | 6 => sent g 6 | 7 => 0
/-- The name of the chunk that the exchange of a slot keeps. -/
def kp : Fin 7 → Fin 8 | 0 => 7 | 1 => 6 | 2 => 4 | 3 => 5 | 4 => 7 | 5 => 6 | 6 => 7
/-- A slot as the name of the chunk sent from it. -/
abbrev sl (s : Fin 7) : Fin 8 := ⟨s.val, by omega⟩
/-- The chunk that a slot sends and the one that it keeps, by their place among the eight; -/
theorem mk_sl (g : Fin 3) (s : Fin 7) : mk g (sl s) = sent g s := by revert g s; decide +kernel
theorem mk_kp (g : Fin 3) (s : Fin 7) : mk g (kp s) = keep g s := by revert g s; decide +kernel
/-- and different places, or different bits, name different chunks. -/
theorem mk_inj (g : Fin 3) : Function.Injective (mk g) := by revert g; decide +kernel
theorem xr_inj (c : Dev nD) : Function.Injective (xr c) := by revert c; decide +kernel

/-! ## Contents -/

/-- What the staged operands hold, -/
def xs (c : Dev nD) : (cc0_stg0_0 : Ref sig .tc).ty.Contents (Elt F) :=
  (win0_0.blk (0 : Fin 1)).view.read (Elt F) ((s₀ m ρ).mem ((c : Thread nD τ).loc main_arg0))
/-- and of `dy`. -/
def ds (c : Dev nD) : (cc0_stg1_0 : Ref sig .tc).ty.Contents (Elt F) :=
  (win0_1.blk (0 : Fin 1)).view.read (Elt F) ((s₀ m ρ).mem ((c : Thread nD τ).loc main_arg1))

/-- the columns of `x` and of `dy` that make a chunk, -/
def xt (c q : Dev nD) : Vec F S1024x128 .bf16 := xM.view.readAt (Elt F) (xR q).toLoadRect (xs m ρ c)
/-- and the columns of `dy`. -/
def dt (c : Dev nD) (g : Fin 3) : Vec F (SD g) .bf16 := dM.view.readAt (Elt F) (dR g).toLoadRect (ds m ρ c)

/-- chunk `q` of group `g` as device `c` makes it, -/
def V0 (g : Fin 3) (q c : Dev nD) : FVec F (SB g) .bf16 := mmPay g (xt m ρ c q) (dt m ρ c g)
/-- with one exchange added, -/
def V1 (g : Fin 3) (q c : Dev nD) : FVec F (SB g) .bf16 := foldPay g (V0 m ρ g q c) (V0 m ρ g q (xr c (axis (ax g 0))))
/-- and with two. -/
def V2 (g : Fin 3) (q c : Dev nD) : FVec F (SB g) .bf16 := foldPay g (V1 m ρ g q c) (V1 m ρ g q (xr c (axis (ax g 1))))
/-- The chunk as it enters phase `k`. -/
def V (g : Fin 3) (q : Dev nD) : Fin 3 → Dev nD → FVec F (SB g) .bf16
  | 0, c => V0 m ρ g q c
  | 1, c => V1 m ρ g q c
  | 2, c => V2 m ρ g q c

/-- What lands in slot `s` of device `c`: the chunk it keeps as its peer has it. -/
def land (c : Dev nD) (g : Fin 3) (s : Fin 7) : FVec F (SB g) .bf16 := V m ρ g (xr c (keep g s)) (phase s) (peer g s c)

/-- The result's columns of group `g`. -/
def res (c : Dev nD) (g : Fin 3) : FVec F (SB g) .f32 := addPay g (V m ρ g c 2 c) (V m ρ g c 2 (xr c (axis (ax g 2))))

/-! ## Ownership of chunks and slots -/

/-- Chunk `q` of group `g` on device `c`, at any contents, -/
def chAny (c : Dev nD) (g : Fin 3) (q : Dev nD) : sProp 𝕄 :=
  iprop(∃ f, (chunk g q).view.loc (c : Thread nD τ) ↦[(chunk g q).view.set]{fullShare} f)
/-- or reading `X`. -/
def chIs (c : Dev nD) (g : Fin 3) (q : Dev nD) (X : FVec F (SB g) .bf16) : sProp 𝕄 :=
  iprop(∃ f, ⌜(chunk g q).view.read (Elt F) f = X⌝ ∗ (chunk g q).view.loc (c : Thread nD τ) ↦[(chunk g q).view.set]{fullShare} f)
/-- Slot `s` of group `g` on device `c`, at any contents, -/
def slAny (c : Dev nD) (g : Fin 3) (s : Fin 7) : sProp 𝕄 :=
  iprop(∃ f, (slot g s).view.loc (c : Thread nD τ) ↦[(slot g s).view.set]{fullShare} f)
/-- or reading `X`. -/
def slIs (c : Dev nD) (g : Fin 3) (s : Fin 7) (X : FVec F (SB g) .bf16) : sProp 𝕄 :=
  iprop(∃ f, ⌜(slot g s).view.read (Elt F) f = X⌝ ∗ (slot g s).view.loc (c : Thread nD τ) ↦[(slot g s).view.set]{fullShare} f)

omit [FloatOps F] in
instance chAny_storable (c : Dev nD) (g : Fin 3) (q : Dev nD) : BI.Storable (upEmb : UEmb _ 𝕄) (chAny (F := F) c g q) := by unfold chAny; infer_instance
omit [FloatOps F] in
instance slAny_storable (c : Dev nD) (g : Fin 3) (s : Fin 7) : BI.Storable (upEmb : UEmb _ 𝕄) (slAny (F := F) c g s) := by unfold slAny; infer_instance
omit [FloatOps F] in
instance slIs_storable (c : Dev nD) (g : Fin 3) (s : Fin 7) (X : FVec F (SB g) .bf16) : BI.Storable (upEmb : UEmb _ 𝕄) (slIs (F := F) c g s X) := by
  unfold slIs; infer_instance

omit [FloatOps F] in
/-- Ownership at known contents is ownership at some contents. -/
theorem chIs_any (c : Dev nD) (g : Fin 3) (q : Dev nD) (X : FVec F (SB g) .bf16) : chIs (F := F) c g q X ⊢ chAny c g q := by
  unfold chIs chAny; iintro ⟨%f, -, H⟩; iexists f; iexact H
omit [FloatOps F] in
theorem slIs_any (c : Dev nD) (g : Fin 3) (s : Fin 7) (X : FVec F (SB g) .bf16) : slIs (F := F) c g s X ⊢ slAny c g s := by
  unfold slIs slAny; iintro ⟨%f, -, H⟩; iexists f; iexact H

/-! ## The schedule -/

/-- The semaphore of a duty's cell. -/
def csem : Duty → SemLoc sig
  | .inl _ => .reg barS
  | .inr (false, g, s) => sS g s
  | .inr (true, g, s) => rS g s

/-- The cells of device `c`: its barrier, and for each slot of each group the one that its send credits and the one that a landing credits. -/
abbrev barCell (c : Dev nD) : GSem nD τ sig := ((c : Thread nD τ), .reg barS)
abbrev sendCell (c : Dev nD) (g : Fin 3) (s : Fin 7) : GSem nD τ sig := ((c : Thread nD τ), sS g s)
abbrev recvCell (c : Dev nD) (g : Fin 3) (s : Fin 7) : GSem nD τ sig := ((c : Thread nD τ), rS g s)

/-- The credit of a transfer of group `g`. -/
def NN (g : Fin 3) : ℕ := (slot g 0).view.dmaCredit
/-- A copy credits something, and as much for the slot as for the chunk. -/
theorem NN_pos (g : Fin 3) : 0 < NN g := View.dmaCredit_pos _ (pos_SB g)
theorem slot_credit (g : Fin 3) (s : Fin 7) : (slot g s).view.dmaCredit = NN g := by revert g s; decide +kernel
theorem chunk_credit (g : Fin 3) (q : Dev nD) : (chunk g q).view.dmaCredit = NN g := by revert g q; decide +kernel

/-- What the neighbour over axis `a` hands `c` with its signal: the slots that `c` sends to over that axis. -/
def barPay (c : Dev nD) (a : Fin 3) : sProp 𝕄 :=
  bigSep (Finset.univ.filter fun x : Fin 3 × Fin 7 => axs x.1 x.2 = a) fun x => slAny (peer x.1 x.2 c) x.1 x.2

omit [FloatOps F] in
instance barPay_storable (c : Dev nD) (a : Fin 3) : BI.Storable (upEmb : UEmb _ 𝕄) (barPay (F := F) c a) := by unfold barPay; infer_instance

/-- What a duty hands over. -/
def payOf (c : Dev nD) : Duty → sProp 𝕄
  | .inl a => barPay c a
  | .inr (false, g, s) => chAny c g (xr c (sent g s))
  | .inr (true, g, s) => slIs c g s (land m ρ c g s)

instance payOf_storable (c : Dev nD) (d : Duty) : BI.Storable (upEmb : UEmb _ 𝕄) (payOf m ρ c d) := by
  rcases d with a | ⟨_ | _, g, s⟩ <;> (unfold payOf; infer_instance)

/-- One round: every duty whose semaphore the cell's is. -/
def Rd : Rounds.Schedule (GSem nD τ sig) Duty 𝕄 where
  duties g r := if r = 0 ∧ g.1.2 = .tc then Finset.univ.filter fun d => csem d = g.2 else ∅
  unitless _ := False
  amount _ _ d := match d with | .inl _ => 1 | .inr (_, g, _) => NN g
  payload g _ d := payOf m ρ g.1.1 d
  amount_pos _ _ d _ := by
    rcases d with a | ⟨b, g, s⟩
    · exact Nat.one_pos
    · exact NN_pos g

instance Rd_storable (g : GSem nD τ sig) (r : ℕ) (d : Duty) : BI.Storable (upEmb : UEmb _ 𝕄) ((Rd (F := F) m ρ).payload g r d) := by
  show BI.Storable upEmb (payOf m ρ g.1.1 d); infer_instance

/-- The duties of each kind of cell, -/
theorem csem_bar : (Finset.univ.filter fun d => csem d = .reg barS) = Finset.univ.map ⟨Sum.inl, Sum.inl_injective⟩ := by decide +kernel
theorem csem_send (g : Fin 3) (s : Fin 7) : (Finset.univ.filter fun d => csem d = sS g s) = {.inr (false, g, s)} := by revert g s; decide +kernel
theorem csem_recv (g : Fin 3) (s : Fin 7) : (Finset.univ.filter fun d => csem d = rS g s) = {.inr (true, g, s)} := by revert g s; decide +kernel

/-- so the duties of its one round; -/
theorem duties_bar (c : Dev nD) : (Rd (F := F) m ρ).duties (barCell c) 0 = Finset.univ.map ⟨Sum.inl, Sum.inl_injective⟩ :=
  by dsimp only [Rd]; exact (if_pos ⟨rfl, rfl⟩).trans csem_bar
theorem duties_send (c : Dev nD) (g : Fin 3) (s : Fin 7) : (Rd (F := F) m ρ).duties (sendCell c g s) 0 = {.inr (false, g, s)} :=
  by dsimp only [Rd]; exact (if_pos ⟨rfl, rfl⟩).trans (csem_send g s)
theorem duties_recv (c : Dev nD) (g : Fin 3) (s : Fin 7) : (Rd (F := F) m ρ).duties (recvCell c g s) 0 = {.inr (true, g, s)} :=
  by dsimp only [Rd]; exact (if_pos ⟨rfl, rfl⟩).trans (csem_recv g s)
/-- there is no other round. -/
theorem duties_later (g : GSem nD τ sig) : ∀ r, 1 ≤ r → (Rd (F := F) m ρ).duties g r = ∅ :=
  fun r hr => by dsimp only [Rd]; exact if_neg fun h => by omega

/-- What a whole round amounts to: -/
theorem expect_bar (c : Dev nD) : (Rd (F := F) m ρ).expect (barCell c) 0 = 3 := by
  unfold Schedule.expect Schedule.amountOf
  rw [duties_bar, Finset.sum_map]; rfl
theorem expect_send (c : Dev nD) (g : Fin 3) (s : Fin 7) : (Rd (F := F) m ρ).expect (sendCell c g s) 0 = NN g := by
  unfold Schedule.expect Schedule.amountOf; rw [duties_send, Finset.sum_singleton]; rfl
theorem expect_recv (c : Dev nD) (g : Fin 3) (s : Fin 7) : (Rd (F := F) m ρ).expect (recvCell c g s) 0 = NN g := by
  unfold Schedule.expect Schedule.amountOf; rw [duties_recv, Finset.sum_singleton]; rfl

/-- and what it hands over. -/
theorem rest_bar (c : Dev nD) : bigSep ((Rd (F := F) m ρ).duties (barCell c) 0 \ ∅) (fun d => (Rd (F := F) m ρ).payload (barCell c) 0 d)
    = bigSep Finset.univ (barPay (F := F) c) := by
  rw [Finset.sdiff_empty, duties_bar, bigSep_map]; rfl
theorem rest_send (c : Dev nD) (g : Fin 3) (s : Fin 7) :
    bigSep ((Rd (F := F) m ρ).duties (sendCell c g s) 0 \ ∅) (fun d => (Rd (F := F) m ρ).payload (sendCell c g s) 0 d) = chAny c g (xr c (sent g s)) := by
  rw [Finset.sdiff_empty, duties_send, bigSep_singleton]; rfl
theorem rest_recv (c : Dev nD) (g : Fin 3) (s : Fin 7) :
    bigSep ((Rd (F := F) m ρ).duties (recvCell c g s) 0 \ ∅) (fun d => (Rd (F := F) m ρ).payload (recvCell c g s) 0 d) = slIs c g s (land m ρ c g s) := by
  rw [Finset.sdiff_empty, duties_recv, bigSep_singleton]; rfl

/-! ## What each device owes; the levels -/

/-- The credit of a list of sends of device `c`: to the receive cells of their slots on their peers. -/
def owedL (c : Dev nD) (l : List (Fin 3 × Fin 7)) : CellTallies nD τ sig Unit :=
  (l.map fun x => tallyAt (recvCell (peer x.1 x.2 c) x.1 x.2) () (NN x.1)).sum
/-- The signals of device `c`: one unit to each neighbour's barrier cell. -/
def owedB (c : Dev nD) (l : List (Fin 3)) : CellTallies nD τ sig Unit :=
  (l.map fun a => tallyAt (barCell (xr c (axis a))) () 1).sum

/-- What a list of copies leaves owed is what its first leaves and what the others leave. -/
theorem owedL_cons (c : Dev nD) (x : Fin 3 × Fin 7) (l : List (Fin 3 × Fin 7)) :
    owedL c (x :: l) = owedL c l + tallyAt (recvCell (peer x.1 x.2 c) x.1 x.2) () (NN x.1) := by
  unfold owedL; rw [List.map_cons, List.sum_cons, add_comm]

/-- The sends in order. -/
def sends : List (Fin 3 × Fin 7) :=
  [(0, 3), (1, 3), (2, 3), (0, 2), (1, 2), (2, 2), (0, 0), (1, 0), (2, 0), (0, 1), (1, 1), (2, 1),
   (0, 5), (0, 4), (1, 5), (1, 4), (2, 5), (2, 4), (0, 6), (1, 6), (2, 6)]

/-- What a device owes at the launch: a credit for every copy it will send, and three signals. -/
def O₀ (c : Dev nD) : CellTallies nD τ sig Unit := owedL c sends + owedB c [0, 1, 2]

/-- Every cell of a TensorCore has one level: -/
def L (g : GSem nD τ sig) : Finset Unit := if g.1.2 = .tc then {()} else ∅
/-- The level of a semaphore: 1 for the barrier's, 2, 3, 4 for a receive semaphore by its phase, 0 for any other. -/
def lvS (sm : SemLoc sig) : ℕ :=
  if sm = .reg barS then 1 else ((Finset.univ.filter fun x : Fin 3 × Fin 7 => rS x.1 x.2 = sm).sup fun x => 2 + (phase x.2).val)
/-- the barrier lies below the landings of phase 0, those below the landings of phase 1, and those below the last. -/
def lv (g : GSem nD τ sig) (_ : Unit) : ℕ := lvS g.2

/-- The levels, cell by cell. -/
theorem L_of_ne (g : GSem nD τ sig) (h : g.1.2 ≠ .tc) : L g = ∅ := if_neg h
theorem L_tc (c : Dev nD) (sm : SemLoc sig) : L ((c : Thread nD τ), sm) = {()} := if_pos rfl
theorem lvS_bar : lvS (.reg barS) = 1 := if_pos rfl
theorem lvS_recv (g : Fin 3) (s : Fin 7) : lvS (rS g s) = 2 + (phase s).val := by revert g s; decide +kernel
theorem lvS_send (g : Fin 3) (s : Fin 7) : lvS (sS g s) = 0 := by revert g s; decide +kernel

/-- A cell that is owed something by a list of copies is the receive cell of one of them, -/
theorem owedL_pos {c : Dev nD} {l : List (Fin 3 × Fin 7)} {g : GSem nD τ sig} {u : Unit} (h : 0 < owedL c l g u) :
    ∃ x ∈ l, g = recvCell (peer x.1 x.2 c) x.1 x.2 := by
  induction l with
  | nil => exact absurd h (Nat.lt_irrefl 0)
  | cons x l ih =>
    rw [owedL_cons, Pi.add_apply, Finsupp.add_apply, tallyAt_apply] at h
    by_cases hx : g = recvCell (peer x.1 x.2 c) x.1 x.2
    · exact ⟨x, List.mem_cons_self, hx⟩
    · rw [if_neg fun h' => hx h'.1] at h
      obtain ⟨y, hy, e⟩ := ih h
      exact ⟨y, List.mem_cons_of_mem _ hy, e⟩
/-- and one owed a signal is a neighbour's barrier. -/
theorem owedB_pos {c : Dev nD} {l : List (Fin 3)} {g : GSem nD τ sig} {u : Unit} (h : 0 < owedB c l g u) :
    ∃ a ∈ l, g = barCell (xr c (axis a)) := by
  induction l with
  | nil => exact absurd h (Nat.lt_irrefl 0)
  | cons a l ih =>
    unfold owedB at h ih
    rw [List.map_cons, List.sum_cons, Pi.add_apply, Finsupp.add_apply, tallyAt_apply] at h
    by_cases hx : g = barCell (xr c (axis a))
    · exact ⟨a, List.mem_cons_self, hx⟩
    · rw [if_neg fun h' => hx h'.1, Nat.zero_add] at h
      obtain ⟨y, hy, e⟩ := ih h
      exact ⟨y, List.mem_cons_of_mem _ hy, e⟩

/-- A device may wait on a semaphore of a level below those of the receive cells it still owes. -/
theorem mayWait_below (c : Dev nD) (sm : SemLoc sig) (l : List (Fin 3 × Fin 7)) (h : ∀ x ∈ l, lvS sm < 2 + (phase x.2).val) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨x, _, rfl⟩ := owedL_pos hg; exact Finset.mem_singleton_self _)
    (fun p hp => by rw [Finset.mem_singleton.mp hp]; exact le_refl _)
    (fun g u hg => by
      obtain ⟨x, hx, rfl⟩ := owedL_pos hg
      show lvS sm < lvS (rS x.1 x.2)
      rw [lvS_recv]; exact h x hx)

/-- A device may wait on a staging semaphore whatever it owes. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · have key : ∀ (g : GSem nD τ sig) (u : Unit), 0 < O₀ c g u → g.1.2 = .tc ∧ 0 < lvS g.2 := fun g u hg => by
      unfold O₀ at hg
      rw [Pi.add_apply, Finsupp.add_apply] at hg
      rcases Nat.eq_zero_or_pos (owedL c sends g u) with h0 | h0
      · rw [h0, Nat.zero_add] at hg
        obtain ⟨a, _, rfl⟩ := owedB_pos hg
        exact ⟨rfl, by show 0 < lvS (.reg barS); rw [lvS_bar]; decide⟩
      · obtain ⟨x, _, rfl⟩ := owedL_pos h0
        exact ⟨rfl, by show 0 < lvS (rS x.1 x.2); rw [lvS_recv]; omega⟩
    refine MayOwe.of_cut (L := L) (lev := lv) 0 (fun p hp => by rw [Finset.mem_singleton.mp hp, L_tc]; exact Finset.mem_singleton_self _)
      (fun g u hg => by unfold L; rw [if_pos (key g u hg).1]; exact Finset.mem_singleton_self _)
      (fun p hp => by rw [Finset.mem_singleton.mp hp]; exact le_of_eq hq)
      (fun g u hg => (key g u hg).2)
  · rw [MayWait_zero]; iintro -; iempintro

end Cert.Gemm

end
-- ==== Proof.Rules.lean ====
/-
  One rule for each kind of step of the body, at any device: the product, the addition, the last addition, the send, and
  the two waits.
-/
module

public import proofs.«01_k».proof.Proof.Common

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of the body on device `c`. -/
abbrev wpk (c : Dev nD) (k : KProg F) (Q : PUnit → sProp 𝕄) : sProp 𝕄 :=
  wp frame (wpE (defs₀ (F := F)) 𝒱₀ (c : Thread nD τ) none) Set.univ k Q

/-! ## The cells -/

/-- The cells of a device: its barrier cell and its transfer cells. -/
abbrev CI : Type := Option (Bool × Fin 3 × Fin 7)
/-- The cell that a name stands for. -/
def kcell (x : Dev nD × CI) : GSem nD τ sig := match x.2 with
  | none => barCell x.1
  | some d => ((x.1 : Thread nD τ), csem (.inr d))

/-- What every device knows: every cell's invariant, and that it has reached round 0. -/
def records (K : Dev nD × CI → ℕ) : sProp 𝕄 :=
  iprop((bigSep Finset.univ fun x : Dev nD × CI => cellInv ER (Rd m ρ) (K x) (kcell x))
    ∗ bigSep Finset.univ fun x : Dev nD × CI => reached ER (kcell x) 0)

instance records_persistent (K : Dev nD × CI → ℕ) : BI.Persistent (records m ρ K) := by unfold records; infer_instance

/-- The records hold each cell's invariant -/
theorem records_inv (K : Dev nD × CI → ℕ) (x : Dev nD × CI) : records m ρ K ⊢ cellInv ER (Rd m ρ) (K x) (kcell x) := by
  unfold records
  exact sep_elim_left.trans (bigSep_elim (Finset.mem_univ x))
/-- and that its first round is reached. -/
theorem records_reached (K : Dev nD × CI → ℕ) (x : Dev nD × CI) : records m ρ K ⊢ reached ER (kcell x) 0 := by
  unfold records
  exact sep_elim_right.trans (bigSep_elim (Finset.mem_univ x))

/-! ## The values of the steps -/

/-- The chunk kept, with what landed added, is the chunk as it enters its next phase; -/
theorem fold_val (c : Dev nD) (g : Fin 3) (s : Fin 7) (hs : s ≠ 6) :
    foldPay g (V m ρ g (xr c (keep g s)) (phase s) c) (land m ρ c g s) = V m ρ g (xr c (keep g s)) (phase s + 1) c := by
  fin_cases s <;> first | rfl | exact (hs rfl).elim

/-- The mask 0 names the device itself. -/
theorem xr_zero (c : Dev nD) : xr c 0 = c := by revert c; decide +kernel

/-- after the last exchange it is the result. -/
theorem last_val (c : Dev nD) (g : Fin 3) : addPay g (V m ρ g (xr c (keep g 6)) 2 c) (land m ρ c g 6) = res m ρ c g := by
  unfold land res
  show addPay g (V m ρ g (xr c 0) 2 c) (V m ρ g (xr c 0) 2 (peer g 6 c)) = _
  rw [xr_zero]; rfl

/-- A slot read as a rectangle of its buffer is the slot as a copy's target. -/
theorem slot_set (g : Fin 3) (s : Fin 7) : ((rM g).access (sR g s)).set = (slot g s).view.set := (View.set_reshape _ _).symm
/-- A landing slot is loaded as a slice of its buffer and read as a chunk. -/
theorem slot_read (g : Fin 3) (s : Fin 7) (f : (slot g s).view.ty.Contents (Elt F)) :
    asChunk (F := F) g (((rM g).access (sR g s)).read (Elt F) f) = (slot g s).view.read (Elt F) f := rfl

/-! ## The steps that stay on the device -/

/-- The staged operands. -/
def ops (c : Dev nD) : sProp 𝕄 :=
  iprop((((c : Thread nD τ).loc cc0_stg0_0) ↦{fullShare} xs m ρ c) ∗ (((c : Thread nD τ).loc cc0_stg1_0) ↦{fullShare} ds m ρ c))

/-- The product: it leaves in the chunk the device's contribution to it. -/
theorem wp_mm (c : Dev nD) (g : Fin 3) (q : Dev nD) (ox oa : Fin 2 → ℕ) (hx : ox = xoff q) (ha : oa = aoff g q) (k : KProg F) (Q : PUnit → sProp 𝕄) :
    iprop(ops m ρ c ∗ chAny c g q ∗ ((ops m ρ c ∗ chIs c g q (V m ρ g q 0 c)) -∗ wpk c k Q))
      ⊢ wpk c (andThen (mmStep g q ox oa hx ha) k) Q := by
  subst hx ha
  unfold ops chAny chIs
  simp only [andThen, mmStep, Prog.lift, Prog.bind_op, Prog.bind_ret]
  iintro ⟨⟨Hx, Hd⟩, ⟨%f, Hc⟩, Hk⟩
  iapply (wp_load 𝒱₀ (c : Thread nD τ) none Set.univ (m := xM) (Finset.subset_univ _)) $$ Hx; iintro Hx
  iapply (wp_load 𝒱₀ (c : Thread nD τ) none Set.univ (m := dM) (Finset.subset_univ _)) $$ Hd; iintro Hd
  iapply (wp_load_rect 𝒱₀ (c : Thread nD τ) none Set.univ (m := aM) (r := aR g q) (Finset.Subset.refl _)) $$ Hc; iintro Hc
  iapply (wp_store 𝒱₀ (c : Thread nD τ) none Set.univ (m := aM) (r := aR g q) (Mk := Finset.univ) (S := (chunk g q).view.set) (Finset.Subset.refl _)) $$ Hc; iintro Hc
  iapply Hk
  isplitl [Hx Hd]
  · isplitl [Hx] <;> iassumption
  iexists _
  isplitr
  swap
  · iexact Hc
  ipureintro; exact View.read_write_univ _ _

/-- The addition after an exchange: it takes what landed and leaves the chunk as it enters the next phase. -/
theorem wp_fold (c : Dev nD) (g : Fin 3) (s : Fin 7) (hs : s ≠ 6) (oa : Fin 2 → ℕ) (ha : oa = aoff g (xr c (keep g s))) (k : KProg F) (Q : PUnit → sProp 𝕄) :
    iprop(chIs c g (xr c (keep g s)) (V m ρ g (xr c (keep g s)) (phase s) c) ∗ slIs c g s (land m ρ c g s)
        ∗ ((chIs c g (xr c (keep g s)) (V m ρ g (xr c (keep g s)) (phase s + 1) c) ∗ slAny c g s) -∗ wpk c k Q))
      ⊢ wpk c (andThen (foldStep g s (xr c (keep g s)) oa ha) k) Q := by
  subst ha
  rw [← fold_val m ρ c g s hs]
  generalize V m ρ g (xr c (keep g s)) (phase s) c = A
  generalize land m ρ c g s = B
  unfold chIs slIs slAny
  simp only [andThen, foldStep, Prog.lift, Prog.bind_op, Prog.bind_ret]
  iintro ⟨⟨%f, %hf, Hc⟩, ⟨%f', %hf', Hs⟩, Hk⟩
  iapply (wp_load_rect 𝒱₀ (c : Thread nD τ) none Set.univ (m := aM) (r := aR g (xr c (keep g s))) (Finset.Subset.refl _)) $$ Hc; iintro Hc
  iapply (wp_load_rect 𝒱₀ (c : Thread nD τ) none Set.univ (m := rM g) (r := sR g s) (subset_of_eq (slot_set g s))) $$ Hs; iintro Hs
  iapply (wp_load_rect 𝒱₀ (c : Thread nD τ) none Set.univ (m := aM) (r := aR g (xr c (keep g s))) (Finset.Subset.refl _)) $$ Hc; iintro Hc
  iapply (wp_store 𝒱₀ (c : Thread nD τ) none Set.univ (m := aM) (r := aR g (xr c (keep g s))) (Mk := Finset.univ) (S := (chunk g (xr c (keep g s))).view.set) (Finset.Subset.refl _)) $$ Hc; iintro Hc
  iapply Hk
  isplitl [Hc]
  · iexists _
    isplitr
    swap
    · iexact Hc
    ipureintro
    refine (View.read_write_univ _ _).trans ?_
    rw [← hf, ← hf', ← slot_read]
  · iexists _; iexact Hs

/-- The staged result, at some contents. -/
def outIs (c : Dev nD) (f : (cc0_stg2_0 : Ref sig .tc).ty.Contents (Elt F)) : sProp 𝕄 := ((c : Thread nD τ).loc cc0_stg2_0) ↦{fullShare} f

/-- The last addition: it leaves the result's columns in the output block. -/
theorem wp_last (c : Dev nD) (g : Fin 3) (oa : Fin 2 → ℕ) (ha : oa = aoff g (xr c (keep g 6))) (f : (cc0_stg2_0 : Ref sig .tc).ty.Contents (Elt F))
    (k : KProg F) (Q : PUnit → sProp 𝕄) :
    iprop(chIs c g (xr c (keep g 6)) (V m ρ g (xr c (keep g 6)) 2 c) ∗ slIs c g 6 (land m ρ c g 6) ∗ outIs c f
        ∗ ((chAny c g (xr c (keep g 6)) ∗ slAny c g 6 ∗ outIs c ((oM.access (oR g)).write (Elt F) f (res m ρ c g) Finset.univ)) -∗ wpk c k Q))
      ⊢ wpk c (andThen (lastStep g (xr c (keep g 6)) oa ha) k) Q := by
  subst ha
  rw [← last_val m ρ c g]
  generalize V m ρ g (xr c (keep g 6)) 2 c = A
  generalize land m ρ c g 6 = B
  unfold chIs slIs slAny chAny outIs
  simp only [andThen, lastStep, Prog.lift, Prog.bind_op, Prog.bind_ret]
  iintro ⟨⟨%fa, %hf, Hc⟩, ⟨%f', %hf', Hs⟩, Ho, Hk⟩
  iapply (wp_load_rect 𝒱₀ (c : Thread nD τ) none Set.univ (m := aM) (r := aR g (xr c (keep g 6))) (Finset.Subset.refl _)) $$ Hc; iintro Hc
  iapply (wp_load_rect 𝒱₀ (c : Thread nD τ) none Set.univ (m := rM g) (r := sR g 6) (subset_of_eq (slot_set g 6))) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := oR g) (Mk := Finset.univ) (S := Finset.univ) (Finset.subset_univ _)) $$ Ho; iintro Ho
  rw [slot_read, hf']
  rw [show ((aM.access (aR g (xr c (keep g 6)))).read (Elt F) fa) = A from hf]
  iapply Hk
  isplitl [Hc]; · iexists _; iexact Hc
  isplitl [Hs]; · iexists _; iexact Hs
  iexact Ho

/-! ## The transfers -/

/-- Device `c` owes the sends of a list. -/
def ow (c : Dev nD) (l : List (Fin 3 × Fin 7)) : sProp 𝕄 := iprop(∃ W, owes (c : Thread nD τ) (owedL c l) W)

variable (K : Dev nD × CI → ℕ)

/-- What a send takes beside the chunk: the peer's slot and the two duties' tokens. -/
def sendRes (c : Dev nD) (g : Fin 3) (s : Fin 7) : sProp 𝕄 :=
  iprop(slAny (peer g s c) g s ∗ dutyTok ER (sendCell c g s) 0 (.inr (false, g, s)) ∗ dutyTok ER (recvCell (peer g s c) g s) 0 (.inr (true, g, s)))
/-- What a wait takes: the cell's credit and position. -/
def waitRes (c : Dev nD) (g : Fin 3) (s : Fin 7) : sProp 𝕄 :=
  iprop(cred (tallyAt (recvCell c g s) () (NN g)) ∗ atPos ER (recvCell c g s) 0 ∅ 0)

/-- A send: it gives the chunk and the peer's slot away, and pays the landing that the device owes. -/
theorem wp_sends (c : Dev nD) (g : Fin 3) (s : Fin 7) (o : Fin 2 → ℕ) (ho : o = aoff g (xr c (sent g s))) (n : Dev nD) (hn : n = peer g s c)
    (l : List (Fin 3 × Fin 7)) (k : KProg F) (Q : PUnit → sProp 𝕄) :
    iprop(records m ρ K ∗ chIs c g (xr c (sent g s)) (V m ρ g (xr c (sent g s)) (phase s) c) ∗ sendRes c g s ∗ ow c ((g, s) :: l)
        ∗ ((cred (tallyAt (sendCell c g s) () (NN g)) ∗ ow c l) -∗ wpk c k Q))
      ⊢ wpk c (andThen (sendStep g s (xr c (sent g s)) o ho n) k) Q := by
  subst ho hn
  have hland : V m ρ g (xr c (sent g s)) (phase s) c = land m ρ (peer g s c) g s := by
    unfold land; rw [peer_peer]; congr 1; rw [← peer_sent, peer_peer]
  rw [hland]
  unfold chIs sendRes slAny ow
  simp only [andThen, sendStep, Prog.lift, Prog.bind_op, Prog.bind_ret]
  iintro ⟨#HR, ⟨%f, %hf, Hc⟩, ⟨⟨%fd, Hs⟩, Ht1, Ht2⟩, ⟨%W, HO⟩, Hk⟩
  iapply (Rounds.wp_send_pointsTo 𝒱₀ ER (Rd m ρ) (c : Thread nD τ) none (c' := Dev.tc (peer g s c)) (sS := sS g s) (sem := rS g s) (κ₁ := K (c, some (false, g, s))) (κ₂ := K (peer g s c, some (true, g, s)))
    (r₁ := 0) (r₂ := 0) (d₁ := .inr (false, g, s)) (d₂ := .inr (true, g, s)) (fd := fd) (fs := f) (src := chunk g (xr c (sent g s))) (dst := slot g s)
    (by rw [duties_send]; exact Finset.mem_singleton_self _) (by rw [duties_recv]; exact Finset.mem_singleton_self _)
    () () (NN g) (slot_credit g s) rfl rfl (owedL c l) (owedL_cons c (g, s) l) (W := W)
    (by
      show _ ⊢ chAny c g (xr c (sent g s))
      unfold chAny; iintro H; iexists f; iexact H)
    (by
      show _ ⊢ slIs (peer g s c) g s (land m ρ (peer g s c) g s)
      unfold slIs; iintro H; iexists _
      isplitr
      swap
      · iexact H
      ipureintro; exact (View.read_write_univ _ _).trans hf)) $$ [Hc Hs Ht1 Ht2 HO]
  · isplitr; · iapply (records_inv m ρ K (c, some (false, g, s))); iexact HR
    isplitr; · iapply (records_inv m ρ K (peer g s c, some (true, g, s))); iexact HR
    isplitl [Hc]; · iexact Hc
    isplitl [Hs]; · iexact Hs
    isplitl [HO]; · iexact HO
    isplitl [Ht1]; · iexact Ht1
    isplitr; · iapply (records_reached m ρ K (c, some (false, g, s))); iexact HR
    isplitl [Ht2]; · iexact Ht2
    iapply (records_reached m ρ K (peer g s c, some (true, g, s))); iexact HR
  iintro ⟨Hcr, HO⟩
  iapply Hk
  isplitl [Hcr]; · iexact Hcr
  iexists W; iexact HO

/-- The wait for a landing: it gives the slot at the peer's chunk. -/
theorem wp_recv (c : Dev nD) (g : Fin 3) (s : Fin 7) (q : Dev nD) (o : Fin 2 → ℕ) (ho : o = aoff g q) (l : List (Fin 3 × Fin 7))
    (hl : ∀ x ∈ l, phase s < phase x.2) (k : KProg F) (Q : PUnit → sProp 𝕄) :
    iprop(records m ρ K ∗ levAts L lv ∗ waitRes c g s ∗ ow c l
        ∗ ((slIs c g s (land m ρ c g s) ∗ semVal (recvCell c g s) 0 ∗ ow c l) -∗ wpk c k Q))
      ⊢ wpk c (andThen (recvStep g s q o ho) k) Q := by
  subst ho
  unfold waitRes ow
  simp only [andThen, recvStep, Prog.lift, Prog.bind_op, Prog.bind_ret]
  iintro ⟨#HR, #Hlev, ⟨Hcr, Hat⟩, ⟨%W, HO⟩, Hk⟩
  ihave #HI := (records_inv m ρ K (c, some (true, g, s))) $$ HR
  iapply (Rounds.wp_wait_rest_token 𝒱₀ ER (Rd m ρ) (c : Thread nD τ) none (κ := K (c, some (true, g, s)))
      (wpE_waitDma2_eq 𝒱₀ (c : Thread nD τ) none Set.univ) (Set.mem_univ _) () (O := owedL c l) (W := W) (R := 0) (m := 0) (T := ∅)
      (by rw [Nat.zero_add, slot_credit]; exact (expect_recv m ρ c g s).symm)) $$ [Hcr HO Hat]
  · isplitr; · iexact HI
    isplitl [Hcr]; · rw [slot_credit]; iexact Hcr
    isplitl [HO]; · iexact HO
    isplitr
    · iapply (mayWait_below (F := F) c (rS g s) l (fun x hx => by rw [lvS_recv]; have := hl x hx; omega)); iexact Hlev
    iexact Hat
  iintro ⟨HO, Hat, -, Hpay⟩
  ihave Hs := (Entails.of_eq (rest_recv m ρ c g s)) $$ Hpay
  imod (Rounds.cell_close ER (Rd m ρ) (Set.mem_univ (K (c, some (true, g, s)))) (fun h => h) (R := 0 + 1) (duties_later m ρ (recvCell c g s))) $$ [Hat] with Hz
  · isplitr; · iexact HI
    iexact Hat
  iapply Hk
  isplitl [Hs]; · iexact Hs
  isplitl [Hz]; · iexact Hz
  iexists _; iexact HO

/-- The wait for a send to have left: it gives the chunk back and the cell at zero. -/
theorem wp_done (c : Dev nD) (g : Fin 3) (s : Fin 7) (q : Dev nD) (o : Fin 2 → ℕ) (ho : o = aoff g q) (k : KProg F) (Q : PUnit → sProp 𝕄) :
    iprop(records m ρ K ∗ cred (tallyAt (sendCell c g s) () (NN g)) ∗ atPos ER (sendCell c g s) 0 ∅ 0 ∗ ow c []
        ∗ ((chAny c g (xr c (sent g s)) ∗ semVal (sendCell c g s) 0 ∗ ow c []) -∗ wpk c k Q))
      ⊢ wpk c (andThen (doneStep g s q o ho) k) Q := by
  subst ho
  unfold ow
  simp only [andThen, doneStep, Prog.lift, Prog.bind_op, Prog.bind_ret]
  iintro ⟨#HR, Hcr, Hat, ⟨%W, HO⟩, Hk⟩
  ihave #HI := (records_inv m ρ K (c, some (false, g, s))) $$ HR
  iapply (Rounds.wp_wait_rest_token 𝒱₀ ER (Rd m ρ) (c : Thread nD τ) none (κ := K (c, some (false, g, s)))
      (wpE_waitDma2_eq 𝒱₀ (c : Thread nD τ) none Set.univ) (Set.mem_univ _) () (O := owedL c []) (W := W) (R := 0) (m := 0) (T := ∅)
      (by rw [Nat.zero_add, chunk_credit]; exact (expect_send m ρ c g s).symm)) $$ [Hcr HO Hat]
  · isplitr; · iexact HI
    isplitl [Hcr]; · rw [chunk_credit]; iexact Hcr
    isplitl [HO]; · iexact HO
    isplitr
    · rw [show owedL c [] = 0 from rfl, MayWait_zero]; iempintro
    iexact Hat
  iintro ⟨HO, Hat, -, Hpay⟩
  ihave Hs := (Entails.of_eq (rest_send m ρ c g s)) $$ Hpay
  imod (Rounds.cell_close ER (Rd m ρ) (Set.mem_univ (K (c, some (false, g, s)))) (fun h => h) (R := 0 + 1) (duties_later m ρ (sendCell c g s))) $$ [Hat] with Hz
  · isplitr; · iexact HI
    iexact Hat
  iapply Hk
  isplitl [Hs]; · iexact Hs
  isplitl [Hz]; · iexact Hz
  iexists _; iexact HO

end Cert.Gemm

end
-- ==== Proof.Body.lean ====
/-
  The whole body of a device, by the rules of its steps: each list of steps is walked by one lemma, and the resources
  are shared out among the lists.
-/
module

public import proofs.«01_k».proof.Proof.Rules

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Listed conjunctions -/

/-- The order of a listed conjunction does not matter. -/
theorem bigSepL_perm {A : Type} {l₁ l₂ : List A} (h : l₁.Perm l₂) (Φ : A → sProp 𝕄) : bigSepL l₁ Φ = bigSepL l₂ Φ := by
  induction h with
  | nil => rfl
  | cons x _ ih => rw [bigSepL_cons', bigSepL_cons', ih]
  | swap x y l =>
    rw [bigSepL_cons, bigSepL_cons, bigSepL_cons, bigSepL_cons]
    ac_rfl
  | trans _ _ h1 h2 => exact h1.trans h2

/-- A listed conjunction of pairs is the pair of the listed conjunctions. -/
theorem bigSepL_sep {A : Type} (l : List A) (Φ Ψ : A → sProp 𝕄) :
    bigSepL l (fun a => iprop(Φ a ∗ Ψ a)) = iprop(bigSepL l Φ ∗ bigSepL l Ψ) := by
  induction l with
  | nil => rw [bigSepL_nil, bigSepL_nil, bigSepL_nil]; exact (BI.equiv_iff.mp emp_sep).symm
  | cons a l ih =>
    rw [bigSepL_cons', bigSepL_cons', bigSepL_cons', ih]
    have h := sep_sep_sep_comm (PROP := sProp 𝕄) (P := Φ a) (Q := Ψ a) (R := bigSepL l Φ) (S := bigSepL l Ψ)
    exact BI.Entails.antisymm h.1 h.2

/-! ## A step for every element of a list -/

/-- A list of steps, each taking `Pre t`, sending `o t` and leaving `Post t`, all with `S` at hand. -/
theorem wp_seqs {A : Type} (c : Dev nD) (f : A → KProg F → KProg F) (S : sProp 𝕄) (Pre Post : A → sProp 𝕄) (o : A → List (Fin 3 × Fin 7))
    (P : Fin 3 × Fin 7 → Prop) (rem : List (Fin 3 × Fin 7)) (hrem : ∀ x ∈ rem, P x) (k : KProg F) (Q : PUnit → sProp 𝕄) (l : List A)
    (ho : ∀ t ∈ l, ∀ x ∈ o t, P x)
    (step : ∀ t ∈ l, ∀ rem, (∀ x ∈ rem, P x) → ∀ k : KProg F,
      iprop(S ∗ Pre t ∗ ow c (o t ++ rem) ∗ ((S ∗ Post t ∗ ow c rem) -∗ wpk c k Q)) ⊢ wpk c (f t k) Q) :
    iprop(S ∗ bigSepL l Pre ∗ ow c (l.flatMap o ++ rem) ∗ ((S ∗ bigSepL l Post ∗ ow c rem) -∗ wpk c k Q)) ⊢ wpk c (seqs f l k) Q := by
  induction l with
  | nil =>
    unfold seqs
    rw [List.foldr_nil, List.flatMap_nil, List.nil_append]
    iintro ⟨HS, H, HO, Hk⟩
    iapply Hk
    isplitl [HS]; · iexact HS
    isplitl [H]; · iexact H
    iexact HO
  | cons t l ih =>
    have hmem : ∀ x ∈ l.flatMap o ++ rem, P x := fun x hx => by
      rcases List.mem_append.mp hx with h | h
      · obtain ⟨u, hu, hx'⟩ := List.mem_flatMap.mp h
        exact ho u (List.mem_cons_of_mem _ hu) x hx'
      · exact hrem x h
    rw [bigSepL_cons', bigSepL_cons', List.flatMap_cons, List.append_assoc]
    iintro ⟨HS, ⟨Ht, Hl⟩, HO, Hk⟩
    iapply (step t List.mem_cons_self _ hmem (seqs f l k))
    isplitl [HS]; · iexact HS
    isplitl [Ht]; · iexact Ht
    isplitl [HO]; · iexact HO
    iintro ⟨HS, Ht, HO⟩
    iapply (ih (fun u hu => ho u (List.mem_cons_of_mem _ hu)) (fun u hu => step u (List.mem_cons_of_mem _ hu)))
    isplitl [HS]; · iexact HS
    isplitl [Hl]; · iexact Hl
    isplitl [HO]; · iexact HO
    iintro ⟨HS, Hl, HO⟩
    iapply Hk
    isplitl [HS]; · iexact HS
    isplitl [Ht Hl]
    · isplitl [Ht] <;> iassumption
    iexact HO

/-! ## The six kinds of step -/

/-- What every step has at hand. -/
def kit (c : Dev nD) : sProp 𝕄 := iprop(records m ρ K ∗ levAts L lv ∗ ops m ρ c)

/-- Chunk `i` of group `g` as device `c` names it, at any contents, -/
def chA (c : Dev nD) (x : Fin 3 × Fin 8) : sProp 𝕄 := chAny c x.1 (xr c (mk x.1 x.2))
/-- or as it enters phase `k`. -/
def chV (c : Dev nD) (k : Fin 3) (x : Fin 3 × Fin 8) : sProp 𝕄 := chIs c x.1 (xr c (mk x.1 x.2)) (V m ρ x.1 (xr c (mk x.1 x.2)) k c)
/-- The same resources, by a pair of group and slot. -/
def slA (c : Dev nD) (x : Fin 3 × Fin 7) : sProp 𝕄 := slAny c x.1 x.2
def sendR (c : Dev nD) (x : Fin 3 × Fin 7) : sProp 𝕄 := sendRes c x.1 x.2
def waitR (c : Dev nD) (x : Fin 3 × Fin 7) : sProp 𝕄 := waitRes c x.1 x.2
/-- A send cell's credit, its position, and a transfer cell's counter at zero. -/
def sCred (c : Dev nD) (x : Fin 3 × Fin 7) : sProp 𝕄 := cred (tallyAt (sendCell c x.1 x.2) () (NN x.1))
/-- The place of a send cell at the launch, and the two cells of a slot at zero, when all is done. -/
def sPos (c : Dev nD) (x : Fin 3 × Fin 7) : sProp 𝕄 := atPos ER (sendCell c x.1 x.2) 0 ∅ 0
def sZero (c : Dev nD) (x : Fin 3 × Fin 7) : sProp 𝕄 := semVal (sendCell c x.1 x.2) 0
def rZero (c : Dev nD) (x : Fin 3 × Fin 7) : sProp 𝕄 := semVal (recvCell c x.1 x.2) 0

/-- Chunk made and sent. -/
theorem step_A (c : Dev nD) (t : Fin 3 × Fin 4) (rem : List (Fin 3 × Fin 7)) (k : KProg F) (Q : PUnit → sProp 𝕄) :
    iprop(kit m ρ K c ∗ (chA c (t.1, sl (up t.2)) ∗ sendR c (t.1, up t.2)) ∗ ow c ([(t.1, up t.2)] ++ rem)
        ∗ ((kit m ρ K c ∗ sCred c (t.1, up t.2) ∗ ow c rem) -∗ wpk c k Q)) ⊢ wpk c (stepA c t k) Q := by
  obtain ⟨g, i⟩ := t
  have hp : phase (up i) = 0 := by revert i; decide
  unfold kit chA sendR sCred stepA
  dsimp only
  rw [mk_sl, List.singleton_append]
  iintro ⟨⟨#HR, #Hlev, Hops⟩, ⟨Hc, Hs⟩, HO, Hk⟩
  iapply (wp_mm m ρ c g)
  isplitl [Hops]; · iexact Hops
  isplitl [Hc]; · iexact Hc
  iintro ⟨Hops, Hc⟩
  iapply (wp_sends m ρ K c g (up i) _ _ _ (devS_eq c g (up i)) rem)
  isplitr; · iexact HR
  isplitl [Hc]; · rw [hp]; iexact Hc
  isplitl [Hs]; · iexact Hs
  isplitl [HO]; · iexact HO
  iintro ⟨Hcr, HO⟩
  iapply Hk
  isplitl [Hops]
  · isplitr; · iexact HR
    isplitr; · iexact Hlev
    iexact Hops
  isplitl [Hcr] <;> iassumption

/-- Chunk made and kept. -/
theorem step_B (c : Dev nD) (t : Fin 3 × Fin 4) (rem : List (Fin 3 × Fin 7)) (k : KProg F) (Q : PUnit → sProp 𝕄) :
    iprop(kit m ρ K c ∗ chA c (t.1, kp (up t.2)) ∗ ow c ([] ++ rem)
        ∗ ((kit m ρ K c ∗ chV m ρ c 0 (t.1, kp (up t.2)) ∗ ow c rem) -∗ wpk c k Q)) ⊢ wpk c (stepB c t k) Q := by
  obtain ⟨g, i⟩ := t
  unfold kit chA chV stepB
  dsimp only
  rw [mk_kp, List.nil_append]
  iintro ⟨⟨#HR, #Hlev, Hops⟩, Hc, HO, Hk⟩
  iapply (wp_mm m ρ c g)
  isplitl [Hops]; · iexact Hops
  isplitl [Hc]; · iexact Hc
  iintro ⟨Hops, Hc⟩
  iapply Hk
  isplitl [Hops]
  · isplitr; · iexact HR
    isplitr; · iexact Hlev
    iexact Hops
  isplitl [Hc] <;> iassumption

/-- What a slot's wait leaves: the slot and its receive cell closed. -/
def rDone (c : Dev nD) (x : Fin 3 × Fin 7) : sProp 𝕄 := iprop(slA c x ∗ rZero c x)

/-- A slot received and added. -/
theorem step_C (c : Dev nD) (t : Fin 3 × Fin 7) (ht : t.2 ≠ 6) (rem : List (Fin 3 × Fin 7)) (hrem : ∀ x ∈ rem, phase t.2 < phase x.2)
    (k : KProg F) (Q : PUnit → sProp 𝕄) :
    iprop(kit m ρ K c ∗ (waitR c t ∗ chV m ρ c (phase t.2) (t.1, kp t.2)) ∗ ow c ([] ++ rem)
        ∗ ((kit m ρ K c ∗ (rDone c t ∗ chV m ρ c (phase t.2 + 1) (t.1, kp t.2)) ∗ ow c rem) -∗ wpk c k Q)) ⊢ wpk c (stepC c t k) Q := by
  obtain ⟨g, s⟩ := t
  unfold kit chV waitR rDone slA rZero stepC
  dsimp only at *
  rw [mk_kp, List.nil_append]
  iintro ⟨⟨#HR, #Hlev, Hops⟩, ⟨Hw, Hc⟩, HO, Hk⟩
  iapply (wp_recv m ρ K c g s _ _ _ rem hrem)
  isplitr; · iexact HR
  isplitr; · iexact Hlev
  isplitl [Hw]; · iexact Hw
  isplitl [HO]; · iexact HO
  iintro ⟨Hs, Hz, HO⟩
  iapply (wp_fold m ρ c g s ht)
  isplitl [Hc]; · iexact Hc
  isplitl [Hs]; · iexact Hs
  iintro ⟨Hc, Hs⟩
  iapply Hk
  isplitl [Hops]
  · isplitr; · iexact HR
    isplitr; · iexact Hlev
    iexact Hops
  isplitr [HO]
  · isplitr [Hc]
    · isplitl [Hs] <;> iassumption
    iexact Hc
  iexact HO

/-- A slot received and added, and the sum sent. -/
theorem step_D (c : Dev nD) (t : Fin 3 × Fin 7 × Fin 7) (ht : t.2.1 ≠ 6) (hk : kp t.2.1 = sl t.2.2) (hp : phase t.2.2 = phase t.2.1 + 1)
    (hlt : phase t.2.1 < phase t.2.2) (rem : List (Fin 3 × Fin 7)) (hrem : ∀ x ∈ rem, phase t.2.1 < phase x.2) (k : KProg F) (Q : PUnit → sProp 𝕄) :
    iprop(kit m ρ K c ∗ (waitR c (t.1, t.2.1) ∗ chV m ρ c (phase t.2.1) (t.1, kp t.2.1) ∗ sendR c (t.1, t.2.2)) ∗ ow c ([(t.1, t.2.2)] ++ rem)
        ∗ ((kit m ρ K c ∗ (rDone c (t.1, t.2.1) ∗ sCred c (t.1, t.2.2)) ∗ ow c rem) -∗ wpk c k Q)) ⊢ wpk c (stepD c t k) Q := by
  obtain ⟨g, s, s'⟩ := t
  unfold stepD
  dsimp only at *
  iintro ⟨HK, ⟨Hw, Hc, Hs⟩, HO, Hk⟩
  iapply (step_C m ρ K c (g, s) ht ((g, s') :: rem) (fun x hx => by
    rcases List.mem_cons.mp hx with rfl | h
    · exact hlt
    · exact hrem x h))
  dsimp only
  isplitl [HK]; · iexact HK
  isplitl [Hw Hc]
  · isplitl [Hw] <;> iassumption
  isplitl [HO]; · iexact HO
  rw [← hp, hk]
  unfold kit chV sendR sCred
  dsimp only
  rw [mk_sl]
  iintro ⟨⟨#HR, #Hlev, Hops⟩, ⟨Hd, Hc⟩, HO⟩
  iapply (wp_sends m ρ K c g s' _ _ _ (devS_eq c g s') rem)
  isplitr; · iexact HR
  isplitl [Hc]; · iexact Hc
  isplitl [Hs]; · iexact Hs
  isplitl [HO]; · iexact HO
  iintro ⟨Hcr, HO⟩
  iapply Hk
  isplitl [Hops]
  · isplitr; · iexact HR
    isplitr; · iexact Hlev
    iexact Hops
  isplitr [HO]
  · isplitl [Hd] <;> iassumption
  iexact HO

/-- The last slot received and the result's columns stored. -/
theorem step_E (c : Dev nD) (g : Fin 3) (f : (cc0_stg2_0 : Ref sig .tc).ty.Contents (Elt F)) (k : KProg F) (Q : PUnit → sProp 𝕄) :
    iprop(kit m ρ K c ∗ (waitR c (g, 6) ∗ chV m ρ c 2 (g, 7)) ∗ outIs c f ∗ ow c []
        ∗ ((kit m ρ K c ∗ (rDone c (g, 6) ∗ chA c (g, 7)) ∗ outIs c ((oM.access (oR g)).write (Elt F) f (res m ρ c g) Finset.univ) ∗ ow c []) -∗ wpk c k Q))
      ⊢ wpk c (stepE c g k) Q := by
  unfold kit chV chA waitR rDone slA rZero stepE
  dsimp only
  rw [show mk g 7 = keep g 6 from rfl]
  iintro ⟨⟨#HR, #Hlev, Hops⟩, ⟨Hw, Hc⟩, Hf, HO, Hk⟩
  iapply (wp_recv m ρ K c g 6 _ _ _ [] (fun x hx => absurd hx List.not_mem_nil))
  isplitr; · iexact HR
  isplitr; · iexact Hlev
  isplitl [Hw]; · iexact Hw
  isplitl [HO]; · iexact HO
  iintro ⟨Hs, Hz, HO⟩
  iapply (wp_last m ρ c g _ _ f)
  isplitl [Hc]; · iexact Hc
  isplitl [Hs]; · iexact Hs
  isplitl [Hf]; · iexact Hf
  iintro ⟨Hc, Hs, Hf⟩
  iapply Hk
  isplitl [Hops]
  · isplitr; · iexact HR
    isplitr; · iexact Hlev
    iexact Hops
  isplitl [Hs Hz Hc]
  · isplitr [Hc]
    · isplitl [Hs] <;> iassumption
    iexact Hc
  isplitl [Hf] <;> iassumption

/-- A departure awaited. -/
theorem step_W (c : Dev nD) (t : Fin 3 × Fin 7) (k : KProg F) (Q : PUnit → sProp 𝕄) :
    iprop(kit m ρ K c ∗ (sCred c t ∗ sPos c t) ∗ ow c ([] ++ [])
        ∗ ((kit m ρ K c ∗ (chA c (t.1, sl t.2) ∗ sZero c t) ∗ ow c []) -∗ wpk c k Q)) ⊢ wpk c (stepW c t k) Q := by
  obtain ⟨g, s⟩ := t
  unfold kit chA sCred sPos sZero stepW
  dsimp only
  rw [mk_sl, List.nil_append]
  iintro ⟨⟨#HR, #Hlev, Hops⟩, ⟨Hcr, Hat⟩, HO, Hk⟩
  iapply (wp_done m ρ K c g s)
  isplitr; · iexact HR
  isplitl [Hcr]; · iexact Hcr
  isplitl [Hat]; · iexact Hat
  isplitl [HO]; · iexact HO
  iintro ⟨Hc, Hz, HO⟩
  iapply Hk
  isplitl [Hops]
  · isplitr; · iexact HR
    isplitr; · iexact Hlev
    iexact Hops
  isplitl [Hc Hz]
  · isplitl [Hc] <;> iassumption
  iexact HO

/-! ## The handshake -/

/-- Device `c` owes all its sends and the signals of a list. -/
def owB (c : Dev nD) (l : List (Fin 3)) : sProp 𝕄 := iprop(∃ W, owes (c : Thread nD τ) (owedL c sends + owedB c l) W)

/-- What a signal hands over is the slots that the neighbour will write. -/
theorem sig_pay (c : Dev nD) (a : Fin 3) : bigSep (Finset.univ.filter fun x : Fin 3 × Fin 7 => axs x.1 x.2 = a) (slA (F := F) c)
    ⊢ (Rd m ρ).payload (barCell (xr c (axis a))) 0 (.inl a) :=
  Entails.of_eq (by
    show _ = barPay (xr c (axis a)) a
    unfold barPay
    refine bigSep_congr fun x hx => ?_
    unfold slA peer
    rw [(Finset.mem_filter.mp hx).2, xr_xr])

/-- A signal: it pays one of the signals owed and gives the neighbour the slots it will write. -/
theorem wp_sig (c : Dev nD) (a : Fin 3) (n : Dev nD) (hn : n = xr c (axis a)) (l : List (Fin 3)) (k : KProg F) (Q : PUnit → sProp 𝕄) :
    iprop(records m ρ K ∗ dutyTok ER (barCell (xr c (axis a))) 0 (.inl a)
        ∗ bigSep (Finset.univ.filter fun x : Fin 3 × Fin 7 => axs x.1 x.2 = a) (slA c) ∗ owB c (a :: l) ∗ (owB c l -∗ wpk c k Q))
      ⊢ wpk c (andThen (semSignalWord n barS 1#32) k) Q := by
  subst hn
  unfold owB
  simp only [andThen, semSignalWord, Prog.bind_op, Prog.bind_ret]
  iintro ⟨#HR, Ht, Hs, ⟨%W, HO⟩, Hk⟩
  iapply (Rounds.wp_signal 𝒱₀ ER (Rd m ρ) (c : Thread nD τ) none (dst := Dev.tc (xr c (axis a))) (κ := K (xr c (axis a), none)) (r := 0) (d := .inl a)
      (by rw [duties_bar]; exact Finset.mem_map_of_mem _ (Finset.mem_univ _)) ((show (Rd m ρ).amount (barCell (xr c (axis a))) 0 (.inl a) = 1 from rfl).trans (by decide)) ()
      (O₀ := owedL c sends + owedB c (a :: l)) (owedL c sends + owedB c l)
      (by unfold owedB; rw [List.map_cons, List.sum_cons, add_assoc, add_comm (List.sum _)]; rfl) (W := W)) $$ [HO Ht Hs]
  · isplitr; · iapply (records_inv m ρ K (xr c (axis a), none)); iexact HR
    isplitl [HO]; · iexact HO
    isplitl [Ht]; · iexact Ht
    isplitl [Hs]
    · iapply (sig_pay m ρ c a); iexact Hs
    iapply (records_reached m ρ K (xr c (axis a), none)); iexact HR
  iintro HO
  iapply Hk
  iexists W; iexact HO

omit [FloatOps F] in
/-- What the three signals bring is every slot that the device sends to. -/
theorem slots_by_axis (Φ : Fin 3 × Fin 7 → sProp 𝕄) :
    (bigSep Finset.univ fun a : Fin 3 => bigSep (Finset.univ.filter fun x : Fin 3 × Fin 7 => axs x.1 x.2 = a) Φ) = bigSep Finset.univ Φ := by
  have hU : (Finset.univ : Finset (Fin 3 × Fin 7)) = Finset.univ.biUnion fun a : Fin 3 => Finset.univ.filter fun x : Fin 3 × Fin 7 => axs x.1 x.2 = a := by
    ext p; simp
  conv_rhs => rw [hU]
  rw [bigSep_biUnion_eq]
  intro a _ b _ hab
  exact Finset.disjoint_filter.mpr fun x _ h1 h2 => hab (h1.symm.trans h2)

/-- The wait on the barrier: every neighbour has signalled, so the device has the slots it will write. -/
theorem wp_bar (c : Dev nD) (k : KProg F) (Q : PUnit → sProp 𝕄) :
    iprop(records m ρ K ∗ levAts L lv ∗ cred (tallyAt (barCell c) () 3) ∗ atPos ER (barCell c) 0 ∅ 0 ∗ owB c []
        ∗ ((bigSep Finset.univ (fun x : Fin 3 × Fin 7 => slAny (peer x.1 x.2 c) x.1 x.2) ∗ semVal (barCell c) 0 ∗ ow c sends) -∗ wpk c k Q))
      ⊢ wpk c (andThen (semWaitWord barS 3#32) k) Q := by
  unfold owB ow
  rw [show owedB c [] = 0 from rfl, add_zero]
  simp only [andThen, semWaitWord, Prog.bind_op, Prog.bind_ret]
  iintro ⟨#HR, #Hlev, Hcr, Hat, ⟨%W, HO⟩, Hk⟩
  ihave #HI := (records_inv m ρ K (c, none)) $$ HR
  iapply (Rounds.wp_wait_rest_token 𝒱₀ ER (Rd m ρ) (c : Thread nD τ) none (κ := K (c, none))
      (wpE_semWait_eq 𝒱₀ (c : Thread nD τ) none Set.univ) (Set.mem_univ _) () (O := owedL c sends) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait_below (F := F) c (.reg barS) sends (fun x _ => by rw [lvS_bar]; omega)); iexact Hlev
    iexact Hat
  iintro ⟨HO, Hat, -, Hpay⟩
  ihave Hs := (Entails.of_eq ((rest_bar m ρ c).trans (slots_by_axis fun x : Fin 3 × Fin 7 => slAny (F := F) (peer x.1 x.2 c) x.1 x.2))) $$ Hpay
  imod (Rounds.cell_close ER (Rd m ρ) (Set.mem_univ (K (c, none))) (fun h => h) (R := 0 + 1) (duties_later m ρ (barCell c))) $$ [Hat] with Hz
  · isplitr; · iexact HI
    iexact Hat
  iapply Hk
  isplitl [Hs]; · iexact Hs
  isplitl [Hz]; · iexact Hz
  iexists _; iexact HO

/-! ## Sharing out the slots and the chunks among the lists -/

omit [FloatOps F] in
/-- The slots, in the order they are awaited. -/
theorem split_wait (Φ : Fin 3 × Fin 7 → sProp 𝕄) : bigSep Finset.univ Φ
    = iprop(bigSepL listD (fun t => Φ (t.1, t.2.1)) ∗ bigSepL listC Φ ∗ bigSepL listD' (fun t => Φ (t.1, t.2.1)) ∗ bigSepL listC' Φ
        ∗ bigSepL listE (fun g => Φ (g, 6))) := by
  rw [bigSep_univ_eq_bigSepL (listD.map (fun t => (t.1, t.2.1)) ++ (listC ++ (listD'.map (fun t => (t.1, t.2.1)) ++ (listC' ++ listE.map (fun g => (g, 6))))))
    (by decide) (by decide)]
  simp only [bigSepL_append, bigSepL_map]

omit [FloatOps F] in
/-- The slots, in the order they are sent to. -/
theorem split_send (Φ : Fin 3 × Fin 7 → sProp 𝕄) : bigSep Finset.univ Φ
    = iprop(bigSepL listA (fun t => Φ (t.1, up t.2)) ∗ bigSepL listD (fun t => Φ (t.1, t.2.2)) ∗ bigSepL listD' (fun t => Φ (t.1, t.2.2))) := by
  rw [bigSep_univ_eq_bigSepL (listA.map (fun t => (t.1, up t.2)) ++ (listD.map (fun t => (t.1, t.2.2)) ++ listD'.map (fun t => (t.1, t.2.2))))
    (by decide) (by decide)]
  simp only [bigSepL_append, bigSepL_map]

omit [FloatOps F] in
/-- All the slots are the list of the last waits. -/
theorem split_done (Φ : Fin 3 × Fin 7 → sProp 𝕄) : bigSep Finset.univ Φ = bigSepL listW Φ :=
  bigSep_univ_eq_bigSepL listW (by decide) (by decide) Φ

omit [FloatOps F] in
/-- The chunks as they are made, -/
theorem split_made (Φ : Fin 3 × Fin 8 → sProp 𝕄) : bigSep Finset.univ Φ
    = iprop(bigSepL listA (fun t => Φ (t.1, sl (up t.2))) ∗ bigSepL listB (fun t => Φ (t.1, kp (up t.2)))) := by
  rw [bigSep_univ_eq_bigSepL (listA.map (fun t => (t.1, sl (up t.2))) ++ listB.map (fun t => (t.1, kp (up t.2)))) (by decide) (by decide)]
  simp only [bigSepL_append, bigSepL_map]

omit [FloatOps F] in
/-- and as they are given back. -/
theorem split_back (Φ : Fin 3 × Fin 8 → sProp 𝕄) : bigSep Finset.univ Φ
    = iprop(bigSepL listW (fun t => Φ (t.1, sl t.2)) ∗ bigSepL listE (fun g => Φ (g, 7))) := by
  rw [bigSep_univ_eq_bigSepL (listW.map (fun t => (t.1, sl t.2)) ++ listE.map (fun g => (g, 7))) (by decide) (by decide)]
  simp only [bigSepL_append, bigSepL_map]

/-- The chunks kept in phase 0 are those that enter its additions, -/
theorem kept_0 (Φ : Fin 3 → Fin 3 × Fin 8 → sProp 𝕄) : bigSepL listB (fun t => Φ 0 (t.1, kp (up t.2)))
    = iprop(bigSepL listD (fun t => Φ (phase t.2.1) (t.1, kp t.2.1)) ∗ bigSepL listC (fun t => Φ (phase t.2) (t.1, kp t.2))) := by
  have h := bigSepL_perm (F := F)
    (show (listB.map (fun t => ((0 : Fin 3), (t.1, kp (up t.2))))).Perm
      (listD.map (fun t => (phase t.2.1, (t.1, kp t.2.1))) ++ listC.map (fun t => (phase t.2, (t.1, kp t.2)))) by decide) (fun y => Φ y.1 y.2)
  simpa only [bigSepL_append, bigSepL_map] using h

/-- those that leave them enter phase 1's, -/
theorem kept_1 (Φ : Fin 3 → Fin 3 × Fin 8 → sProp 𝕄) : bigSepL listC (fun t => Φ (phase t.2 + 1) (t.1, kp t.2))
    = iprop(bigSepL listD' (fun t => Φ (phase t.2.1) (t.1, kp t.2.1)) ∗ bigSepL listC' (fun t => Φ (phase t.2) (t.1, kp t.2))) := by
  have h := bigSepL_perm (F := F)
    (show (listC.map (fun t => (phase t.2 + 1, (t.1, kp t.2)))).Perm
      (listD'.map (fun t => (phase t.2.1, (t.1, kp t.2.1))) ++ listC'.map (fun t => (phase t.2, (t.1, kp t.2)))) by decide) (fun y => Φ y.1 y.2)
  simpa only [bigSepL_append, bigSepL_map] using h

/-- and those that leave phase 1's enter the last. -/
theorem kept_2 (Φ : Fin 3 → Fin 3 × Fin 8 → sProp 𝕄) : bigSepL listC' (fun t => Φ (phase t.2 + 1) (t.1, kp t.2))
    = bigSepL listE (fun g => Φ 2 (g, 7)) := by
  have h := bigSepL_perm (F := F)
    (show (listC'.map (fun t => (phase t.2 + 1, (t.1, kp t.2)))).Perm (listE.map (fun g => ((2 : Fin 3), (g, (7 : Fin 8))))) by decide) (fun y => Φ y.1 y.2)
  simpa only [bigSepL_map] using h

/-! ## The whole program of a device -/

/-- The right to pay each duty: a send's, a landing's on the peer, and a signal's to a neighbour. -/
def tokS (c : Dev nD) (x : Fin 3 × Fin 7) : sProp 𝕄 := dutyTok ER (sendCell c x.1 x.2) 0 (.inr (false, x.1, x.2))
def tokR (c : Dev nD) (x : Fin 3 × Fin 7) : sProp 𝕄 := dutyTok ER (recvCell (peer x.1 x.2 c) x.1 x.2) 0 (.inr (true, x.1, x.2))
def tokB (c : Dev nD) (a : Fin 3) : sProp 𝕄 := dutyTok ER (barCell (xr c (axis a))) 0 (.inl a)

/-- The result's buffer after the three stores. -/
def outW (c : Dev nD) (f : (cc0_stg2_0 : Ref sig .tc).ty.Contents (Elt F)) : (cc0_stg2_0 : Ref sig .tc).ty.Contents (Elt F) :=
  (oM.access (oR 2)).write (Elt F) ((oM.access (oR 1)).write (Elt F) ((oM.access (oR 0)).write (Elt F) f (res m ρ c 0) Finset.univ) (res m ρ c 1) Finset.univ)
    (res m ρ c 2) Finset.univ

/-- What the handshake leaves. -/
theorem wp_handshake (c : Dev nD) (k : KProg F) (Q : PUnit → sProp 𝕄) :
    iprop(records m ρ K ∗ levAts L lv ∗ bigSep Finset.univ (tokB (F := F) c) ∗ bigSep Finset.univ (slA (F := F) c)
        ∗ cred (tallyAt (barCell c) () 3) ∗ atPos ER (barCell c) 0 ∅ 0 ∗ owB c [0, 1, 2]
        ∗ ((bigSep Finset.univ (fun x : Fin 3 × Fin 7 => slAny (peer x.1 x.2 c) x.1 x.2) ∗ semVal (barCell c) 0 ∗ ow c sends) -∗ wpk c k Q))
      ⊢ wpk c (handshake c k) Q := by
  unfold handshake
  rw [bigSep_eq_bigSepL_of_eq [0, 1, 2] (S := (Finset.univ : Finset (Fin 3))) (by decide) (by decide), ← slots_by_axis (slA c),
    bigSep_eq_bigSepL_of_eq [0, 1, 2] (S := (Finset.univ : Finset (Fin 3))) (by decide) (by decide)]
  simp only [bigSepL_cons', bigSepL_nil]
  unfold tokB
  iintro ⟨#HR, #Hlev, ⟨Ht0, Ht1, Ht2, -⟩, ⟨Hs0, Hs1, Hs2, -⟩, Hcr, Hat, HO, Hk⟩
  iapply (wp_sig m ρ K c 0 _ (devB_eq c 0) [1, 2])
  isplitr; · iexact HR
  isplitl [Ht0]; · iexact Ht0
  isplitl [Hs0]; · iexact Hs0
  isplitl [HO]; · iexact HO
  iintro HO
  iapply (wp_sig m ρ K c 1 _ (devB_eq c 1) [2])
  isplitr; · iexact HR
  isplitl [Ht1]; · iexact Ht1
  isplitl [Hs1]; · iexact Hs1
  isplitl [HO]; · iexact HO
  iintro HO
  iapply (wp_sig m ρ K c 2 _ (devB_eq c 2) [])
  isplitr; · iexact HR
  isplitl [Ht2]; · iexact Ht2
  isplitl [Hs2]; · iexact Hs2
  isplitl [HO]; · iexact HO
  iintro HO
  iapply (wp_bar m ρ K c)
  isplitr; · iexact HR
  isplitr; · iexact Hlev
  isplitl [Hcr]; · iexact Hcr
  isplitl [Hat]; · iexact Hat
  isplitl [HO]; · iexact HO
  iexact Hk

/-- What a device starts from. -/
def startRes (c : Dev nD) (f : (cc0_stg2_0 : Ref sig .tc).ty.Contents (Elt F)) : sProp 𝕄 :=
  iprop(kit m ρ K c ∗ outIs c f ∗ bigSep Finset.univ (chA (F := F) c) ∗ bigSep Finset.univ (slA (F := F) c)
    ∗ bigSep Finset.univ (tokB (F := F) c) ∗ bigSep Finset.univ (tokS (F := F) c) ∗ bigSep Finset.univ (tokR (F := F) c)
    ∗ cred (tallyAt (barCell c) () 3) ∗ atPos ER (barCell c) 0 ∅ 0 ∗ bigSep Finset.univ (waitR (F := F) c) ∗ bigSep Finset.univ (sPos (F := F) c)
    ∗ owB c [0, 1, 2])

/-- What it ends with. -/
def endRes (c : Dev nD) (f : (cc0_stg2_0 : Ref sig .tc).ty.Contents (Elt F)) : sProp 𝕄 :=
  iprop(kit m ρ K c ∗ outIs c (outW m ρ c f) ∗ bigSep Finset.univ (chA (F := F) c) ∗ bigSep Finset.univ (rDone (F := F) c)
    ∗ bigSep Finset.univ (sZero (F := F) c) ∗ semVal (barCell c) 0 ∗ ow c [])

/-- The three last additions. -/
theorem wp_listE (c : Dev nD) (f : (cc0_stg2_0 : Ref sig .tc).ty.Contents (Elt F)) (k : KProg F) (Q : PUnit → sProp 𝕄) :
    iprop(kit m ρ K c ∗ (bigSepL listE (fun g => waitR c (g, 6)) ∗ bigSepL listE (fun g => chV m ρ c 2 (g, 7))) ∗ outIs c f ∗ ow c []
        ∗ ((kit m ρ K c ∗ (bigSepL listE (fun g => rDone c (g, 6)) ∗ bigSepL listE (fun g => chA c (g, 7))) ∗ outIs c (outW m ρ c f) ∗ ow c []) -∗ wpk c k Q))
      ⊢ wpk c (seqs (stepE c) listE k) Q := by
  rw [← bigSepL_sep, ← bigSepL_sep]
  unfold seqs listE outW
  simp only [List.foldr_cons, List.foldr_nil, bigSepL_cons', bigSepL_nil]
  iintro ⟨HK, ⟨H0, H1, H2, -⟩, Hf, HO, Hk⟩
  iapply (step_E m ρ K c 0 f)
  isplitl [HK]; · iexact HK
  isplitl [H0]; · iexact H0
  isplitl [Hf]; · iexact Hf
  isplitl [HO]; · iexact HO
  iintro ⟨HK, H0, Hf, HO⟩
  iapply (step_E m ρ K c 1)
  isplitl [HK]; · iexact HK
  isplitl [H1]; · iexact H1
  isplitl [Hf]; · iexact Hf
  isplitl [HO]; · iexact HO
  iintro ⟨HK, H1, Hf, HO⟩
  iapply (step_E m ρ K c 2)
  isplitl [HK]; · iexact HK
  isplitl [H2]; · iexact H2
  isplitl [Hf]; · iexact Hf
  isplitl [HO]; · iexact HO
  iintro ⟨HK, H2, Hf, HO⟩
  iapply Hk
  isplitl [HK]; · iexact HK
  isplitl [H0 H1 H2]
  · isplitl [H0]; · iexact H0
    isplitl [H1]; · iexact H1
    isplitl [H2]; · iexact H2
    iempintro
  isplitl [Hf] <;> iassumption

/-- Both phases of additions that send on, then those that do not. -/
theorem wp_phase (c : Dev nD) (p : Fin 3) (lD : List (Fin 3 × Fin 7 × Fin 7)) (lC : List (Fin 3 × Fin 7))
    (hD : ∀ t ∈ lD, t.2.1 ≠ 6 ∧ kp t.2.1 = sl t.2.2 ∧ phase t.2.2 = phase t.2.1 + 1 ∧ phase t.2.1 < phase t.2.2 ∧ phase t.2.1 = p)
    (hC : ∀ t ∈ lC, t.2 ≠ 6 ∧ phase t.2 = p) (rem : List (Fin 3 × Fin 7)) (hrem : ∀ x ∈ rem, p < phase x.2) (k : KProg F) (Q : PUnit → sProp 𝕄) :
    iprop(kit m ρ K c
        ∗ (bigSepL lD (fun t => waitR c (t.1, t.2.1)) ∗ bigSepL lD (fun t => chV m ρ c (phase t.2.1) (t.1, kp t.2.1)) ∗ bigSepL lD (fun t => sendR c (t.1, t.2.2)))
        ∗ (bigSepL lC (waitR c) ∗ bigSepL lC (fun t => chV m ρ c (phase t.2) (t.1, kp t.2)))
        ∗ ow c (lD.flatMap (fun t => [(t.1, t.2.2)]) ++ rem)
        ∗ ((kit m ρ K c ∗ (bigSepL lD (fun t => rDone c (t.1, t.2.1)) ∗ bigSepL lD (fun t => sCred c (t.1, t.2.2)))
            ∗ (bigSepL lC (rDone c) ∗ bigSepL lC (fun t => chV m ρ c (phase t.2 + 1) (t.1, kp t.2))) ∗ ow c rem) -∗ wpk c k Q))
      ⊢ wpk c (seqs (stepD c) lD (seqs (stepC c) lC k)) Q := by
  rw [← bigSepL_sep, ← bigSepL_sep, ← bigSepL_sep, ← bigSepL_sep, ← bigSepL_sep]
  iintro ⟨HK, HD, HC, HO, Hk⟩
  iapply (wp_seqs c (stepD c) (kit m ρ K c) _ _ (fun t => [(t.1, t.2.2)]) (fun x => p < phase x.2) rem hrem (seqs (stepC c) lC k) Q lD
    (fun t ht x hx => by
      obtain rfl := List.mem_singleton.mp hx
      obtain ⟨-, -, -, h, h'⟩ := hD t ht
      exact h' ▸ h)
    (fun t ht rem hrem k => by
      obtain ⟨h1, h2, h3, h4, h5⟩ := hD t ht
      exact step_D m ρ K c t h1 h2 h3 h4 rem (fun x hx => h5 ▸ hrem x hx) k Q))
  isplitl [HK]; · iexact HK
  isplitl [HD]; · iexact HD
  isplitl [HO]; · iexact HO
  iintro ⟨HK, HD, HO⟩
  iapply (wp_seqs c (stepC c) (kit m ρ K c) _ _ (fun t => []) (fun x => p < phase x.2) rem hrem k Q lC
    (fun t _ x hx => absurd hx List.not_mem_nil)
    (fun t ht rem hrem k => by
      obtain ⟨h1, h5⟩ := hC t ht
      exact step_C m ρ K c t h1 rem (fun x hx => h5 ▸ hrem x hx) k Q))
  rw [show lC.flatMap (fun _ : Fin 3 × Fin 7 => ([] : List (Fin 3 × Fin 7))) = [] from List.flatMap_eq_nil_iff.mpr fun _ _ => rfl, List.nil_append]
  isplitl [HK]; · iexact HK
  isplitl [HC]; · iexact HC
  isplitl [HO]; · iexact HO
  iintro ⟨HK, HC, HO⟩
  iapply Hk
  isplitl [HK]; · iexact HK
  isplitl [HD]; · iexact HD
  isplitl [HC] <;> iassumption

/-- The products of phase 0, sent and kept. -/
theorem wp_made (c : Dev nD) (rem : List (Fin 3 × Fin 7)) (k : KProg F) (Q : PUnit → sProp 𝕄) :
    iprop(kit m ρ K c ∗ bigSep Finset.univ (chA c) ∗ bigSepL listA (fun t => sendR c (t.1, up t.2)) ∗ ow c (listA.flatMap (fun t => [(t.1, up t.2)]) ++ rem)
        ∗ ((kit m ρ K c ∗ bigSepL listA (fun t => sCred c (t.1, up t.2)) ∗ bigSepL listB (fun t => chV m ρ c 0 (t.1, kp (up t.2))) ∗ ow c rem) -∗ wpk c k Q))
      ⊢ wpk c (seqs (stepA c) listA (seqs (stepB c) listB k)) Q := by
  rw [split_made]
  iintro ⟨HK, ⟨HA, HB⟩, HS, HO, Hk⟩
  ihave HA := (Entails.of_eq (bigSepL_sep listA (fun t => chA (F := F) c (t.1, sl (up t.2))) (fun t => sendR c (t.1, up t.2))).symm) $$ [HA HS]
  · isplitl [HA] <;> iassumption
  iapply (wp_seqs c (stepA c) (kit m ρ K c) _ _ (fun t => [(t.1, up t.2)]) (fun _ => True) rem (fun _ _ => trivial) (seqs (stepB c) listB k) Q listA
    (fun _ _ _ _ => trivial) (fun t ht rem hrem k => step_A m ρ K c t rem k Q))
  isplitl [HK]; · iexact HK
  isplitl [HA]; · iexact HA
  isplitl [HO]; · iexact HO
  iintro ⟨HK, HA, HO⟩
  iapply (wp_seqs c (stepB c) (kit m ρ K c) _ _ (fun t => []) (fun _ => True) rem (fun _ _ => trivial) k Q listB
    (fun _ _ _ _ => trivial) (fun t ht rem hrem k => step_B m ρ K c t rem k Q))
  rw [show listB.flatMap (fun _ : Fin 3 × Fin 4 => ([] : List (Fin 3 × Fin 7))) = [] from rfl, List.nil_append]
  isplitl [HK]; · iexact HK
  isplitl [HB]; · iexact HB
  isplitl [HO]; · iexact HO
  iintro ⟨HK, HB, HO⟩
  iapply Hk
  isplitl [HK]; · iexact HK
  isplitl [HA]; · iexact HA
  isplitl [HB] <;> iassumption

/-- The departures awaited. -/
theorem wp_waited (c : Dev nD) (k : KProg F) (Q : PUnit → sProp 𝕄) :
    iprop(kit m ρ K c ∗ bigSep Finset.univ (sCred (F := F) c) ∗ bigSep Finset.univ (sPos (F := F) c) ∗ bigSepL listE (fun g => chA (F := F) c (g, 7)) ∗ ow c []
        ∗ ((kit m ρ K c ∗ bigSep Finset.univ (chA (F := F) c) ∗ bigSep Finset.univ (sZero (F := F) c) ∗ ow c []) -∗ wpk c k Q))
      ⊢ wpk c (seqs (stepW c) listW k) Q := by
  rw [split_back, split_done, split_done, split_done]
  iintro ⟨HK, HC, HP, HE, HO, Hk⟩
  ihave HW := (Entails.of_eq (bigSepL_sep listW (sCred (F := F) c) (sPos c)).symm) $$ [HC HP]
  · isplitl [HC] <;> iassumption
  iapply (wp_seqs c (stepW c) (kit m ρ K c) (fun t => iprop(sCred c t ∗ sPos c t)) (fun t => iprop(chA c (t.1, sl t.2) ∗ sZero c t)) (fun t => []) (fun _ => False) []
    (fun x hx => absurd hx List.not_mem_nil) k Q listW (fun _ _ x hx => absurd hx List.not_mem_nil) (fun t ht rem hrem k => by
      obtain rfl : rem = [] := List.eq_nil_iff_forall_not_mem.mpr hrem
      exact step_W m ρ K c t k Q))
  rw [show listW.flatMap (fun _ : Fin 3 × Fin 7 => ([] : List (Fin 3 × Fin 7))) = [] from rfl, List.nil_append, bigSepL_sep listW (fun t => chA (F := F) c (t.1, sl t.2)) (sZero c)]
  isplitl [HK]; · iexact HK
  isplitl [HW]; · iexact HW
  isplitl [HO]; · iexact HO
  iintro ⟨HK, ⟨HC, HZ⟩, HO⟩
  iapply Hk
  isplitl [HK]; · iexact HK
  isplitl [HC HE]
  · isplitl [HC] <;> iassumption
  isplitl [HZ] <;> iassumption

/-- A device's program runs from what it starts from to what it ends with. -/
theorem wp_prog (c : Dev nD) (f : (cc0_stg2_0 : Ref sig .tc).ty.Contents (Elt F)) (Q : PUnit → sProp 𝕄) :
    iprop(startRes m ρ K c f ∗ (endRes m ρ K c f -∗ Q ⟨⟩)) ⊢ wpk c (prog c) Q := by
  unfold startRes prog
  iintro ⟨⟨HK, Hf, Hch, Hsl, HtB, HtS, HtR, Hcr, Hat, HW, HP, HO⟩, Hk⟩
  ihave ⟨#HR, #Hlev, Hops⟩ := (show kit m ρ K c ⊢ iprop(records m ρ K ∗ levAts L lv ∗ ops m ρ c) from .rfl) $$ HK
  iapply (wp_handshake m ρ K c)
  isplitr; · iexact HR
  isplitr; · iexact Hlev
  isplitl [HtB]; · iexact HtB
  isplitl [Hsl]; · iexact Hsl
  isplitl [Hcr]; · iexact Hcr
  isplitl [Hat]; · iexact Hat
  isplitl [HO]; · iexact HO
  iintro ⟨Hsl, Hbar, HO⟩
  ihave HK : kit m ρ K c $$ [Hops]
  · unfold kit
    isplitr; · iexact HR
    isplitr; · iexact Hlev
    iexact Hops
  ihave HS := (show iprop(bigSep Finset.univ (fun x : Fin 3 × Fin 7 => slAny (F := F) (peer x.1 x.2 c) x.1 x.2) ∗ bigSep Finset.univ (tokS (F := F) c)
      ∗ bigSep Finset.univ (tokR (F := F) c)) ⊢ bigSep Finset.univ (sendR c) from Entails.of_eq (by
        rw [split_done, split_done, split_done, split_done, ← bigSepL_sep, ← bigSepL_sep]; rfl)) $$ [Hsl HtS HtR]
  · isplitl [Hsl]; · iexact Hsl
    isplitl [HtS] <;> iassumption
  ihave ⟨HSA, HSD, HSD'⟩ := (Entails.of_eq (split_send (sendR (F := F) c))) $$ HS
  ihave ⟨HWD, HWC, HWD', HWC', HWE⟩ := (Entails.of_eq (split_wait (waitR (F := F) c))) $$ HW
  iapply (wp_made m ρ K c (listD.flatMap (fun t => [(t.1, t.2.2)]) ++ (listD'.flatMap (fun t => [(t.1, t.2.2)]) ++ [])))
  isplitl [HK]; · iexact HK
  isplitl [Hch]; · iexact Hch
  isplitl [HSA]; · iexact HSA
  isplitl [HO]; · iexact HO
  iintro ⟨HK, HcA, HV, HO⟩
  ihave ⟨HVD, HVC⟩ := (Entails.of_eq (kept_0 (chV m ρ c))) $$ HV
  iapply (wp_phase m ρ K c 0 listD listC (by decide) (by decide) (listD'.flatMap (fun t => [(t.1, t.2.2)]) ++ []) (by decide))
  isplitl [HK]; · iexact HK
  isplitl [HWD HVD HSD]
  · isplitl [HWD]; · iexact HWD
    isplitl [HVD] <;> iassumption
  isplitl [HWC HVC]
  · isplitl [HWC] <;> iassumption
  isplitl [HO]; · iexact HO
  iintro ⟨HK, ⟨HRD, HcD⟩, ⟨HRC, HV⟩, HO⟩
  ihave ⟨HVD, HVC⟩ := (Entails.of_eq (kept_1 (chV m ρ c))) $$ HV
  iapply (wp_phase m ρ K c 1 listD' listC' (by decide) (by decide) [] (by decide))
  isplitl [HK]; · iexact HK
  isplitl [HWD' HVD HSD']
  · isplitl [HWD']; · iexact HWD'
    isplitl [HVD] <;> iassumption
  isplitl [HWC' HVC]
  · isplitl [HWC'] <;> iassumption
  isplitl [HO]; · iexact HO
  iintro ⟨HK, ⟨HRD', HcD'⟩, ⟨HRC', HV⟩, HO⟩
  ihave HV := (Entails.of_eq (kept_2 (chV m ρ c))) $$ HV
  iapply (wp_listE m ρ K c f)
  isplitl [HK]; · iexact HK
  isplitl [HWE HV]
  · isplitl [HWE] <;> iassumption
  isplitl [Hf]; · iexact Hf
  isplitl [HO]; · iexact HO
  iintro ⟨HK, ⟨HRE, HE⟩, Hf, HO⟩
  ihave HC := (Entails.of_eq (split_send (sCred (F := F) c)).symm) $$ [HcA HcD HcD']
  · isplitl [HcA]; · iexact HcA
    isplitl [HcD] <;> iassumption
  ihave HD := (Entails.of_eq (split_wait (rDone (F := F) c)).symm) $$ [HRD HRC HRD' HRC' HRE]
  · isplitl [HRD]; · iexact HRD
    isplitl [HRC]; · iexact HRC
    isplitl [HRD']; · iexact HRD'
    isplitl [HRC'] <;> iassumption
  iapply (wp_waited m ρ K c)
  isplitl [HK]; · iexact HK
  isplitl [HC]; · iexact HC
  isplitl [HP]; · iexact HP
  isplitl [HE]; · iexact HE
  isplitl [HO]; · iexact HO
  iintro ⟨HK, Hch, HZ, HO⟩
  unfold wpk
  rw [wp_ret]; imodintro
  iapply Hk
  unfold endRes
  isplitl [HK]; · iexact HK
  isplitl [Hf]; · iexact Hf
  isplitl [Hch]; · iexact Hch
  isplitl [HD]; · iexact HD
  isplitl [HZ]; · iexact HZ
  isplitl [Hbar] <;> iassumption

end Cert.Gemm

end
-- ==== Proof.Buffers.lean ====
/-
  The scratch buffers are their chunks and slots, and the result's columns are the three groups.
-/
module

public import proofs.«01_k».proof.Proof.Body

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Rectangles that share out a buffer -/

omit [FloatOps F] in
/-- A whole buffer's view covers it. -/
theorem whole_set {s : Shape} {sp : Space} {e : EltTy} {M : Memref sig .tc sp s e} (h : M.IsWhole) : M.view.set = Finset.univ := by
  obtain ⟨b, rfl, rfl, rfl, h⟩ := h; cases h; exact View.set_whole b

/-- The elements of a buffer under a rectangle of it. -/
def piece {s : Shape} {sp : Space} {e : EltTy} (M : Memref sig .tc sp s e) (r : Rect s) : Finset M.view.ty.Idx := r.set.map M.view.emb

section Share

variable {s : Shape} {sp : Space} {e : EltTy} {M : Memref sig .tc sp s e} (hM : M.IsWhole) {B : Type} [Fintype B] [DecidableEq B] (r : B → Rect s)
  (hd : ∀ b b', b ≠ b' → Disjoint (r b).set (r b').set) (hc : ∀ i : s.Idx, ∃ b, i ∈ (r b).set)

include hd in
/-- Disjoint rectangles are disjoint pieces, -/
theorem piece_disjoint (b b' : B) (h : b ≠ b') : Disjoint (piece M (r b)) (piece M (r b')) :=
  (Finset.disjoint_map _).mpr (hd b b' h)

include hM hc in
/-- and rectangles that cover give pieces that cover. -/
theorem piece_cover : Finset.univ.biUnion (fun b => piece M (r b)) = Finset.univ := by
  refine Finset.eq_univ_iff_forall.mpr fun i => ?_
  obtain ⟨y, -, rfl⟩ := Finset.mem_map.mp (show i ∈ M.view.set by rw [whole_set hM]; exact Finset.mem_univ i)
  obtain ⟨b, hb⟩ := hc y
  exact Finset.mem_biUnion.mpr ⟨b, Finset.mem_univ b, Finset.mem_map_of_mem _ hb⟩

end Share

omit [FloatOps F] in
/-- A buffer held whole, at some contents, is its blocks held each at some contents. -/
theorem blocks_eq {ℓ : Loc nD τ sig} {B : Type} [Fintype B] [DecidableEq B] (I : B → Finset (Idx ℓ)) (hd : ∀ b b', b ≠ b' → Disjoint (I b) (I b'))
    (hc : Finset.univ.biUnion I = Finset.univ) (f₀ : Buf (Elt F) ℓ) :
    (iprop(∃ f, ℓ ↦{fullShare} f) : sProp 𝕄) = bigSep Finset.univ fun b => iprop(∃ f, ℓ ↦[I b]{fullShare} f) := by
  refine BI.Entails.antisymm ?_ (Ring.pointsTo_blocks_join_exists I hd hc f₀)
  have h : ∀ f, (ℓ ↦{fullShare} f : sProp 𝕄) ⊢ bigSep Finset.univ (fun b => iprop(∃ f, ℓ ↦[I b]{fullShare} f)) := fun f =>
    (Entails.of_eq (Ring.pointsTo_blocks I hd hc f)).trans (bigSep_mono fun b _ =>
      show (ℓ ↦[I b]{fullShare} f : sProp 𝕄) ⊢ iprop(∃ f, ℓ ↦[I b]{fullShare} f) from by iintro H; iexists f; iexact H)
  show (iprop(∃ f, ℓ ↦{fullShare} f) : sProp 𝕄) ⊢ _
  iintro ⟨%f, H⟩
  iapply (h f); iexact H

/-! ## The accumulator and the landing buffers -/

/-- Every chunk has a place among the eight. -/
theorem mk_surj (g : Fin 3) : Function.Surjective (mk g) := Finite.injective_iff_surjective.mp (mk_inj g)
theorem xr_surj (c : Dev nD) : Function.Surjective (xr c) := Finite.injective_iff_surjective.mp (xr_inj c)

/-- The chunks are disjoint -/
theorem aR_disjoint (g g' : Fin 3) (q q' : Dev nD) (h : g ≠ g' ∨ q ≠ q') : Disjoint (aR g q).set (aR g' q').set := by
  rcases eq_or_ne g g' with rfl | hg
  · have hq : q ≠ q' := h.resolve_left fun h => h rfl
    have hv : q.val ≠ q'.val := fun e => hq (Fin.ext e)
    refine Rect.unit_disjoint (0 : Fin 2) ?_
    show 128 * q.val + 128 ≤ 128 * q'.val ∨ 128 * q'.val + 128 ≤ 128 * q.val
    omega
  · refine Rect.unit_disjoint (1 : Fin 2) ?_
    show col g + wd g ≤ col g' ∨ col g' + wd g' ≤ col g
    clear h
    revert hg; revert g g'; decide

/-- and cover the accumulator; -/
theorem aR_cover (i : S1024x4096.Idx) : ∃ g q, i ∈ (aR g q).set := by
  have h0 : (i 0).val < 1024 := (i 0).isLt
  have h1 : (i 1).val < 4096 := (i 1).isLt
  have hg : ∃ g : Fin 3, col g ≤ (i 1).val ∧ (i 1).val < col g + wd g := by
    rcases Nat.lt_or_ge (i 1).val 1408 with h | h
    · exact ⟨0, Nat.zero_le _, by show _ < 0 + 1408; omega⟩
    rcases Nat.lt_or_ge (i 1).val 2816 with h' | h'
    · exact ⟨1, h, h'⟩
    · exact ⟨2, h', h1⟩
  obtain ⟨g, hg⟩ := hg
  refine ⟨g, ⟨(i 0).val / 128, by show _ < 8; omega⟩, Rect.mem_set_unit.mpr fun a => ?_⟩
  match a with
  | 0 => show 128 * ((i 0).val / 128) ≤ (i 0).val ∧ (i 0).val < 128 * ((i 0).val / 128) + 128; omega
  | 1 => exact hg

/-- the slots are disjoint -/
theorem sR_disjoint (g : Fin 3) (s s' : Fin 7) (h : s ≠ s') : Disjoint (sR g s).set (sR g s').set := by
  have hv : s.val ≠ s'.val := fun e => h (Fin.ext e)
  refine Rect.unit_disjoint (0 : Fin 3) ?_
  show s.val + 1 ≤ s'.val ∨ s'.val + 1 ≤ s.val
  omega

/-- and cover their landing buffer. -/
theorem sR_cover (g : Fin 3) (i : (SR g).Idx) : ∃ s, i ∈ (sR g s).set := by
  refine ⟨⟨(i 0).val, (i 0).isLt⟩, Rect.mem_set_unit.mpr fun a => ?_⟩
  match a with
  | 0 => show (i 0).val ≤ (i 0).val ∧ (i 0).val < (i 0).val + 1; omega
  | 1 => show 0 ≤ (i 1).val ∧ (i 1).val < 0 + 128; have : (i 1).val < 128 := (i 1).isLt; omega
  | 2 => show 0 ≤ (i 2).val ∧ (i 2).val < 0 + wd g; have : (i 2).val < wd g := (i 2).isLt; omega

/-- The accumulator's rectangle of a chunk as device `c` names it. -/
def aB (c : Dev nD) (x : Fin 3 × Fin 8) : Rect S1024x4096 := aR x.1 (xr c (mk x.1 x.2))

/-- The chunks as the device names them are disjoint -/
theorem aB_disjoint (c : Dev nD) (x y : Fin 3 × Fin 8) (h : x ≠ y) : Disjoint (aB c x).set (aB c y).set := by
  refine aR_disjoint _ _ _ _ ?_
  obtain ⟨g, i⟩ := x; obtain ⟨g', i'⟩ := y
  rcases eq_or_ne g g' with rfl | hg
  · exact Or.inr fun e => h (congrArg (Prod.mk g) (mk_inj g (xr_inj c e)))
  · exact Or.inl hg
/-- and cover. -/
theorem aB_cover (c : Dev nD) (i : S1024x4096.Idx) : ∃ x, i ∈ (aB c x).set := by
  obtain ⟨g, q, h⟩ := aR_cover i
  obtain ⟨k, rfl⟩ := xr_surj c q
  obtain ⟨n, rfl⟩ := mk_surj g k
  exact ⟨(g, n), h⟩

omit [FloatOps F] in
/-- Owning a chunk is owning a piece of the accumulator, -/
theorem chA_eq (c : Dev nD) (x : Fin 3 × Fin 8) : chA (F := F) c x = iprop(∃ f, (aM.view.loc (c : Thread nD τ)) ↦[piece aM (aB c x)]{fullShare} f) := by
  have h : (chunk x.1 (xr c (mk x.1 x.2))).view.set = piece aM (aB c x) := View.set_slice _ _
  unfold chA chAny
  rw [h]
omit [FloatOps F] in
/-- and owning a slot a piece of its landing buffer. -/
theorem slA_eq (c : Dev nD) (g : Fin 3) (s : Fin 7) : slA (F := F) c (g, s) = iprop(∃ f, ((rM g).view.loc (c : Thread nD τ)) ↦[piece (rM g) (sR g s)]{fullShare} f) := by
  have h : (slot g s).view.set = piece (rM g) (sR g s) := (View.set_reshape _ _).trans (View.set_slice _ _)
  unfold slA slAny
  rw [h]

omit [FloatOps F] in
/-- The accumulator is its chunks. -/
theorem acc_eq (m : (ℓ : Loc nD τ sig) → Buf (Elt F) ℓ) (c : Dev nD) : iprop(∃ f, (aM.view.loc (c : Thread nD τ)) ↦{fullShare} f) = bigSep Finset.univ (chA (F := F) c) := by
  rw [bigSep_congr fun x _ => chA_eq c x]
  exact blocks_eq (ℓ := aM.view.loc (c : Thread nD τ)) (fun x => piece aM (aB c x)) (piece_disjoint (aB c) (aB_disjoint c))
    (piece_cover (Memref.isWhole_whole cc0_scratch0) (aB c) (aB_cover c)) (m _)

omit [FloatOps F] in
/-- A landing buffer is its slots. -/
theorem land_eq (m : (ℓ : Loc nD τ sig) → Buf (Elt F) ℓ) (c : Dev nD) (g : Fin 3) : iprop(∃ f, ((rM g).view.loc (c : Thread nD τ)) ↦{fullShare} f) = bigSep Finset.univ (fun s => slA (F := F) c (g, s)) := by
  rw [bigSep_congr fun s _ => slA_eq c g s]
  exact blocks_eq (ℓ := (rM g).view.loc (c : Thread nD τ)) (fun s => piece (rM g) (sR g s)) (piece_disjoint (sR g) (sR_disjoint g))
    (piece_cover (rM_whole g) (sR g) (sR_cover g)) (m _)

omit [FloatOps F] in
/-- A conjunction over the groups, written out. -/
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- The scratch buffers are the chunks and the slots. -/
theorem scratch_eq (m : (ℓ : Loc nD τ sig) → Buf (Elt F) ℓ) (c : Dev nD) :
    (Pipeline.scopedRest (Ix := Unit) (Name := ℕ) (U := UU) (Lvl := ℕ) (Val := Elt F) cfg0.spec c : sProp 𝕄)
      = iprop(bigSep Finset.univ (chA (F := F) c) ∗ bigSep Finset.univ (slA (F := F) c)) := by
  rw [bigSep_univ_prod (slA (F := F) c), bigSep_fin3, ← acc_eq m, ← land_eq m, ← land_eq m, ← land_eq m]
  exact scopedRest0_eq c

/-! ## The result's columns -/

/-- Every column of the result lies in a group. -/
theorem oR_cover (i : S128x4096.Idx) : i ∈ (oR 0).set ∨ i ∈ (oR 1).set ∨ i ∈ (oR 2).set := by
  have h0 : (i 0).val < 128 := (i 0).isLt
  have h1 : (i 1).val < 4096 := (i 1).isLt
  have key : ∀ g : Fin 3, col g ≤ (i 1).val → (i 1).val < col g + wd g → i ∈ (oR g).set := fun g a b => Rect.mem_set_unit.mpr fun x => by
    match x with
    | 0 => exact ⟨Nat.zero_le _, by show (i 0).val < 0 + 128; omega⟩
    | 1 => exact ⟨a, b⟩
  rcases Nat.lt_or_ge (i 1).val 1408 with h | h
  · exact Or.inl (key 0 (Nat.zero_le _) (by show _ < 0 + 1408; omega))
  rcases Nat.lt_or_ge (i 1).val 2816 with h' | h'
  · exact Or.inr (Or.inl (key 1 h h'))
  · exact Or.inr (Or.inr (key 2 h' h1))

end Cert.Gemm

end
-- ==== Proof.Oblig.lean ====
/-
  The body meets its specification: from what the launch deals a device, it leaves the output block at the computed
  contents and every counter at zero.
-/
module

public import proofs.«01_k».proof.Proof.Buffers
public import proofs.«01_k».proof.Proof.Gen.KernelIdeal.Points

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

open Idealize.ShloMosaic.Pipeline (Dat Cfg Window BodyObligation cellOf)

/-! ## The result's contents -/

omit [FloatOps F] in
/-- After a store of a group, its columns do not depend on what was there, -/
theorem write_in {g : Fin 3} (f f' : (cc0_stg2_0 : Ref sig .tc).ty.Contents (Elt F)) (w : FVec F (SB g) .f32) {i : S128x4096.Idx} (hi : i ∈ (oR g).set) :
    ((oM.access (oR g)).write (Elt F) f w Finset.univ) i = ((oM.access (oR g)).write (Elt F) f' w Finset.univ) i := by
  have h : i ∈ (oM.access (oR g)).set := by
    rw [show (oM.access (oR g)).set = (oR g).set from View.set_slice_whole cc0_stg2_0 _]; exact hi
  obtain ⟨x, -, rfl⟩ := Finset.mem_map.mp h
  exact (View.write_emb_of_mem (v := oM.access (oR g)) f w (Finset.mem_univ x)).trans (View.write_emb_of_mem (v := oM.access (oR g)) f' w (Finset.mem_univ x)).symm

omit [FloatOps F] in
/-- and the other columns are as before. -/
theorem write_out {g : Fin 3} (f : (cc0_stg2_0 : Ref sig .tc).ty.Contents (Elt F)) (w : FVec F (SB g) .f32) {i : S128x4096.Idx} (hi : i ∉ (oR g).set) :
    ((oM.access (oR g)).write (Elt F) f w Finset.univ) i = f i :=
  View.write_of_not_mem (v := oM.access (oR g)) f w Finset.univ (by
    show i ∉ (oM.access (oR g)).set
    rw [show (oM.access (oR g)).set = (oR g).set from View.set_slice_whole cc0_stg2_0 _]; exact hi)

/-- The three stores leave nothing of what the result's buffer held. -/
theorem outW_indep (c : Dev nD) (f f' : (cc0_stg2_0 : Ref sig .tc).ty.Contents (Elt F)) : outW m ρ c f = outW m ρ c f' := by
  funext i
  unfold outW
  by_cases h2 : i ∈ (oR 2).set
  · exact write_in _ _ _ h2
  rw [write_out _ _ h2, write_out _ _ h2]
  by_cases h1 : i ∈ (oR 1).set
  · exact write_in _ _ _ h1
  rw [write_out _ _ h1, write_out _ _ h1]
  exact write_in _ _ _ ((oR_cover i).resolve_right fun h => h.elim h1 h2)

/-- The kernel's result on device `c`. -/
def outAt (c : Dev nD) : (cc0_stg2_0 : Ref sig .tc).ty.Contents (Elt F) := outW m ρ c (m ((c : Thread nD τ).loc cc0_stg2_0))

/-! ## The proof data -/

/-- The grid has one point. -/
theorem fin_N (t : Fin cfg0.N) : t = t0_0 := fin_N0 t

/-- The place of a receive cell at the launch, and the credit its wait will use. -/
def rPos (c : Dev nD) (x : Fin 3 × Fin 7) : sProp 𝕄 := atPos ER (recvCell c x.1 x.2) 0 ∅ 0
def rCred (c : Dev nD) (x : Fin 3 × Fin 7) : sProp 𝕄 := cred (tallyAt (recvCell c x.1 x.2) () (NN x.1))

/-- What the launch deals device `c` beside the records: its cells' positions and the tokens of the duties it pays. -/
def linear (c : Dev nD) : sProp 𝕄 :=
  iprop((atPos ER (barCell c) 0 ∅ 0 ∗ bigSep Finset.univ (sPos (F := F) c) ∗ bigSep Finset.univ (rPos (F := F) c))
    ∗ bigSep Finset.univ (tokB (F := F) c) ∗ bigSep Finset.univ (tokS (F := F) c) ∗ bigSep Finset.univ (tokR (F := F) c))

/-- What the launch deals to a device. -/
def G' (c : Dev nD) : sProp 𝕄 := iprop(∃ K, records m ρ K ∗ linear c)

/-- What device `c`'s body starts from beside the buffers. -/
def start (c : Dev nD) : sProp 𝕄 :=
  iprop(G' m ρ c ∗ (cred (tallyAt (barCell c) () 3) ∗ bigSep Finset.univ (rCred (F := F) c)) ∗ levAts L lv)

/-- What the body holds beside its blocks before it runs, -/
def Φ₀ (c : Dev nD) : sProp 𝕄 := iprop(start m ρ c ∗ bigSep Finset.univ (chA (F := F) c) ∗ bigSep Finset.univ (slA (F := F) c))
/-- and after. -/
def Φ₁ (c : Dev nD) : sProp 𝕄 :=
  iprop((bigSep Finset.univ (chA (F := F) c) ∗ bigSep Finset.univ (slA (F := F) c))
    ∗ (bigSep Finset.univ (sZero (F := F) c) ∗ bigSep Finset.univ (rZero (F := F) c)) ∗ semVal (barCell c) 0)

/-- The proof data of the call: the operands' blocks stay, and the output block ends at the computed contents. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ds m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Both operands are fetched at the one point. -/
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
/-- Owning a staged block is owning its buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staged block at its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is given -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it must leave. -/
def bodyPost (c : Dev nD) : sProp 𝕄 :=
  iprop(Φ₁ c ∗ (dats m ρ 0 c).owesAt () t0_0.succ
    ∗ stg c cc0_stg0_0 (xs m ρ c) ∗ stg c cc0_stg1_0 (ds m ρ c) ∗ stg c cc0_stg2_0 (outAt m ρ c))

/-- What the body starts from is what its program does, -/
theorem pre_start (c : Dev nD) : bodyPre m ρ c ⊢ iprop(∃ K f, startRes m ρ K c f) := by
  unfold bodyPre Φ₀ start G' linear startRes kit ops outIs owB waitR waitRes Dat.owesAt Pipeline.owesWithin
  simp only [bigSep_sep']
  iintro ⟨⟨⟨⟨%K, #HR, ⟨HaB, HaS, HaR⟩, HtB, HtS, HtR⟩, ⟨HcB, HcR⟩, #Hlev⟩, Hch, Hsl⟩, ⟨%W, %hW, HO⟩, ⟨%d0, %g0, %hg0, Hx⟩, ⟨%d1, %g1, %hg1, Hd⟩, ⟨%d2, %g2, %hg2, Ho⟩⟩
  have hx : g0 = xs m ρ c := by rw [hg0]; unfold Dat.before; rw [if_pos (fetch_0 t0_0)]; rfl
  have hd : g1 = ds m ρ c := by rw [hg1]; unfold Dat.before; rw [if_pos (fetch_1 t0_0)]; rfl
  subst hx hd
  iexists K; iexists g2
  isplitl [Hx Hd]
  · isplitr; · iexact HR
    isplitr; · iexact Hlev
    isplitl [Hx] <;> iassumption
  isplitl [Ho]; · iexact Ho
  isplitl [Hch]; · iexact Hch
  isplitl [Hsl]; · iexact Hsl
  isplitl [HtB]; · iexact HtB
  isplitl [HtS]; · iexact HtS
  isplitl [HtR]; · iexact HtR
  isplitl [HcB]; · iexact HcB
  isplitl [HaB]; · iexact HaB
  isplitl [HcR HaR]
  · isplitl [HcR]; · iexact HcR
    iexact HaR
  isplitl [HaS]; · iexact HaS
  iexists W; iexact HO

/-- and so is what it ends with. -/
theorem end_post (K : Dev nD × CI → ℕ) (c : Dev nD) (f : (cc0_stg2_0 : Ref sig .tc).ty.Contents (Elt F)) : endRes m ρ K c f ⊢ bodyPost m ρ c := by
  unfold endRes bodyPost Φ₁ kit ops outIs ow rDone Dat.owesAt Pipeline.owesWithin
  rw [show (dats m ρ 0 c).owed t0_0.succ = 0 from rfl, show owedL c [] = 0 from rfl]
  simp only [bigSep_sep']
  iintro ⟨⟨-, -, Hx, Hd⟩, Ho, Hch, ⟨Hsl, Hr⟩, Hs, Hb, ⟨%W, HO⟩⟩
  isplitl [Hch Hsl Hr Hs Hb]
  · isplitl [Hch Hsl]
    · isplitl [Hch] <;> iassumption
    isplitl [Hr Hs]
    · isplitl [Hs] <;> iassumption
    iexact Hb
  isplitl [HO]
  · iexists W
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists (outW m ρ c f)
  isplitr; · ipureintro; exact outW_indep m ρ c f _
  iexact Ho

/-- The body runs. -/
theorem sound_body (c : Dev nD) : bodyPre m ρ c ⊢ wpk c (prog c) (fun _ => bodyPost m ρ c) := by
  refine (pre_start m ρ c).trans ?_
  iintro ⟨%K, %f, H⟩
  iapply (wp_prog m ρ K c f)
  isplitl [H]; · iexact H
  iintro H
  iapply (end_post m ρ K c f); iexact H

/-- A body that asks for its device may be proved at that device. -/
theorem wp_dev (c : Dev nD) (k : Dev nD → KProg F) (Q : PUnit → sProp 𝕄) : wpk c (k c) Q ⊢ wpk c (Prog.lift .deviceId >>= fun c => k c) Q := by
  simp only [Prog.lift, Prog.bind_op, Prog.bind_ret, wp_deviceId]
  iintro H; iexact H

set_option maxRecDepth 20000 in
/-- The printed body is the listed program. -/
theorem bodyAt_eq : bodyAt0 (F := F) t0_0 = (Prog.lift .deviceId >>= fun c => prog c) := by
  rw [← body_eq]

set_option maxRecDepth 20000 in
/-- The body obligation of the staging pipeline. -/
theorem body_obligation (c : Dev nD) : BodyObligation (dats (F := F) m ρ 0 c) (defs₀ (F := F)) 𝒱₀ () Set.univ := fun t => by
  rw [fin_N t]
  rw [bigSep_W0, bigSep_W0]
  have h : bodyPre m ρ c ⊢ wp frame (wpE (defs₀ (F := F)) 𝒱₀ c none) Set.univ (bodyAt0 t0_0) (fun _ => bodyPost m ρ c) := by
    rw [bodyAt_eq]
    exact (sound_body m ρ c).trans (wp_dev c prog _)
  unfold bodyPre bodyPost stg at h
  simp only [← owns_whole_eq] at h
  exact h

end Cert.Gemm

end
-- ==== Proof.Run.lean ====
/-
  The run of the kernel on eight devices, for any float values: the launch deals the cells, tokens and credits, every
  device's body then meets its specification, and the arrays after the run hold the computed contents.
-/
module

public import proofs.«01_k».proof.Proof.Oblig
public import Idealize.ShloMosaic.Lib.Pipeline.CollectiveSegs

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

open Idealize.ShloMosaic.Pipeline (Dat Cfg Window BodyObligation cellOf)

/-! ## The launch's cells and tokens -/

/-- The kernel's own semaphores: the send and the receive semaphores of all slots. -/
def osem (d : Bool × Fin 3 × Fin 7) : SemLoc sig := csem (.inr d)

/-- The semaphores that the call owns are its scratch semaphores. -/
theorem ownSemFacts : Pipeline.OwnSemFacts cfg0.spec osem := by decide +kernel

/-- Every array is held whole. -/
theorem share_eq (c : Dev nD) (w : Fin cfg0.W) : (dats m ρ 0 c).share w = fullShare := by unfold Dat.share; split <;> rfl

/-- Different names stand for different cells, -/
theorem kcell_snd (c c' : Dev nD) (k k' : CI) (h : (kcell (c, k)).2 = (kcell (c', k')).2) : k = k' := by
  have key : ∀ k k' : CI, (kcell (0, k)).2 = (kcell (0, k')).2 → k = k' := by decide +kernel
  refine key k k' ?_
  rcases k with _ | ⟨_ | _, _, _⟩ <;> rcases k' with _ | ⟨_ | _, _, _⟩ <;> exact h

/-- each on the device named, -/
theorem kcell_fst (x : Dev nD × CI) : (kcell x).1 = ((x.1 : Dev nD) : Thread nD τ) := by
  rcases x with ⟨c, _ | ⟨_ | _, _, _⟩⟩ <;> rfl

/-- whichever the devices. -/
theorem kcell_injective : Function.Injective (kcell : Dev nD × CI → GSem nD τ sig) := by
  rintro ⟨c, k⟩ ⟨c', k'⟩ h
  have h1 : ((c : Dev nD) : Thread nD τ) = (c' : Thread nD τ) := (kcell_fst (c, k)).symm.trans ((congrArg Prod.fst h).trans (kcell_fst (c', k')))
  exact Prod.ext (congrArg (fun t : Thread nD τ => t.1) h1) (kcell_snd c c' k k' (congrArg Prod.snd h))

/-- The cells of the exchange. -/
def ringCells : Finset (GSem nD τ sig) := Finset.univ.map ⟨kcell, kcell_injective⟩

/-- The token of duty `d` at device `c`'s cell. -/
def tokOf (x : Dev nD × Duty) : GSem nD τ sig × ℕ × Duty := (((x.1 : Thread nD τ), csem x.2), 0, x.2)
/-- Different duties have different tokens. -/
theorem tokOf_injective : Function.Injective tokOf := by
  rintro ⟨c, d⟩ ⟨c', d'⟩ h
  exact Prod.ext (congrArg (fun x : GSem nD τ sig × ℕ × Duty => x.1.1.1) h) (congrArg (fun x : GSem nD τ sig × ℕ × Duty => x.2.2) h)
/-- The tokens of the exchange. -/
def ringToks : Finset (GSem nD τ sig × ℕ × Duty) := Finset.univ.map ⟨tokOf, tokOf_injective⟩

/-- The ghost state at launch: the pipeline's and the exchange's. -/
def u₀ : UU := (initOf (Pipeline.cells cfgs cellOf_inj) (Pipeline.launchToks cfgs cellOf_inj), initOf ringCells ringToks)

/-- The tokens of device `c`'s cells. -/
def toks (c : Dev nD) : sProp 𝕄 := bigSep Finset.univ fun d : Duty => dutyTok ER ((c : Thread nD τ), csem d) 0 d

/-- The positions of device `c`'s cells. -/
def posns (c : Dev nD) : sProp 𝕄 := bigSep Finset.univ fun k : CI => atPos ER (kcell (c, k)) 0 ∅ 0
/-- What the launch deals device `c`. -/
def G (c : Dev nD) : sProp 𝕄 :=
  iprop((bigSep Finset.univ fun k : CI => roundState ER (Rd m ρ) (kcell (c, k)) 0)
    ∗ (posns (F := F) c ∗ (bigSep Finset.univ fun k : CI => reached ER (kcell (c, k)) 0)) ∗ toks (F := F) c)

/-- The launch's fund gives each device its cells and tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat' Hr']
  · isplitl [Hat'] <;> iassumption
  iexact Htok'

/-! ## Sums over cells and duties -/

omit [FloatOps F] in
/-- A conjunction over two copies of a type is two conjunctions, -/
theorem bigSep_bool {A : Type} [Fintype A] (Φ : Bool × A → sProp 𝕄) :
    bigSep Finset.univ Φ = iprop(bigSep Finset.univ (fun a => Φ (false, a)) ∗ bigSep Finset.univ (fun a => Φ (true, a))) := by
  rw [bigSep_univ_prod, bigSep_univ_eq_bigSepL [false, true] (by decide) (by decide)]; rfl
omit [FloatOps F] in
/-- and one over a type with a further element has one further conjunct. -/
theorem bigSep_option {A : Type} [Fintype A] (Φ : Option A → sProp 𝕄) :
    bigSep Finset.univ Φ = iprop(Φ none ∗ bigSep Finset.univ fun a => Φ (some a)) := by
  rw [bigSep_univ_equiv (Equiv.optionEquivSumPUnit.{0, 0} A).symm, bigSep_univ_sum, bigSep_univ_of_subsingleton PUnit.unit]
  exact BI.equiv_iff.mp ⟨BI.sep_comm, BI.sep_comm⟩

omit [FloatOps F] in
/-- A device's cells: its barrier cell, its send cells and its receive cells. -/
theorem bigSep_cells (c : Dev nD) (Φ : GSem nD τ sig → sProp 𝕄) :
    (bigSep Finset.univ fun k : CI => Φ (kcell (c, k)))
      = iprop(Φ (barCell c) ∗ bigSep Finset.univ (fun x : Fin 3 × Fin 7 => Φ (sendCell c x.1 x.2)) ∗ bigSep Finset.univ (fun x : Fin 3 × Fin 7 => Φ (recvCell c x.1 x.2))) := by
  rw [bigSep_option, bigSep_bool]; rfl

omit [FloatOps F] in
/-- The call's own counters at zero are the send and the receive cells at zero, -/
theorem ownSems0_eq (c : Dev nD) : (Pipeline.ownSems0 (Ix := Unit) (Name := ℕ) (U := UU) (Lvl := ℕ) (Val := Elt F) (τ := τ) osem c : sProp 𝕄)
    = iprop(bigSep Finset.univ (sZero (F := F) c) ∗ bigSep Finset.univ (rZero (F := F) c)) := by
  unfold Pipeline.ownSems0; rw [bigSep_bool]; rfl
omit [FloatOps F] in
/-- and the other one is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The global step -/

/-- One device's cells opened: their invariants, positions and tokens. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (posns (F := F) c ∗ (bigSep Finset.univ fun k : CI => reached ER (kcell (c, k)) 0)) ∗ toks (F := F) c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) from by
        rw [ownSems0_eq, unscopedSems0_eq, bigSep_cells c fun g => semVal g 0]
        iintro ⟨⟨H1, H2⟩, H3⟩
        isplitl [H3]; · iexact H3
        isplitl [H1]; · iexact H1
        iexact H2) $$ [Hos Hus]
  · isplitl [Hos] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over devices and `A` may be summed with the devices moved by `A`'s involution. -/
theorem bigSep_move {A : Type} [Fintype A] (e : A → Dev nD ≃ Dev nD) (Φ : Dev nD → A → sProp 𝕄) :
    (bigSep Finset.univ fun c : Dev nD => bigSep Finset.univ fun a : A => Φ c a)
      = bigSep Finset.univ fun c : Dev nD => bigSep Finset.univ fun a : A => Φ (e a c) a := by
  rw [bigSep_univ_comm, bigSep_univ_comm (fun c a => Φ (e a c) a)]
  exact bigSep_congr fun a _ => bigSep_univ_equiv (e a) fun c => Φ c a

omit [FloatOps F] in
/-- The tokens dealt to the devices that pay the duties. -/
theorem toks_around : (bigSep Finset.univ fun c : Dev nD => (toks c : sProp 𝕄))
    = bigSep Finset.univ fun c : Dev nD => iprop(bigSep Finset.univ (tokB (F := F) c) ∗ bigSep Finset.univ (tokS (F := F) c) ∗ bigSep Finset.univ (tokR (F := F) c)) := by
  have h (c : Dev nD) : (toks c : sProp 𝕄) = iprop((bigSep Finset.univ fun a : Fin 3 => dutyTok ER (barCell c) 0 (.inl a))
      ∗ bigSep Finset.univ (tokS (F := F) c) ∗ (bigSep Finset.univ fun x : Fin 3 × Fin 7 => dutyTok ER (recvCell c x.1 x.2) 0 (.inr (true, x.1, x.2)))) := by
    unfold toks; rw [bigSep_univ_sum, bigSep_bool]; rfl
  rw [bigSep_congr fun c _ => h c, bigSep_sep', bigSep_sep', bigSep_sep', bigSep_sep',
    bigSep_move (fun a => xrE (axis a)) (fun c a => (dutyTok ER (barCell c) 0 (.inl a) : sProp 𝕄)),
    bigSep_move (fun x : Fin 3 × Fin 7 => xrE (axis (axs x.1 x.2))) (fun c x => (dutyTok ER (recvCell c x.1 x.2) 0 (.inr (true, x.1, x.2)) : sProp 𝕄))]
  rfl

/-- The places of a device's cells, by kind. -/
theorem posns_eq (c : Dev nD) : (posns c : sProp 𝕄) = iprop(atPos ER (barCell c) 0 ∅ 0 ∗ bigSep Finset.univ (sPos (F := F) c) ∗ bigSep Finset.univ (rPos (F := F) c)) := by
  unfold posns; rw [bigSep_cells c fun g => atPos ER g 0 ∅ 0]; rfl

omit [FloatOps F] in
/-- What can be had without being used up is had by every member. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Each device's share of the launch, regrouped by who will use it. -/
theorem regroup :
    (bigSep Finset.univ fun c : Dev nD => iprop((bigSep Finset.univ fun k => iprop(∃ κ : ℕ, cellInv ER (Rd m ρ) κ (kcell (c, k))))
          ∗ (posns (F := F) c ∗ (bigSep Finset.univ fun k : CI => reached ER (kcell (c, k)) 0)) ∗ toks (F := F) c) : sProp 𝕄)
      ⊢ bigSep Finset.univ (G' m ρ) := by
  rw [bigSep_sep', bigSep_sep', ← bigSep_univ_prod (fun ck : Dev nD × CI => iprop(∃ κ : ℕ, cellInv ER (Rd m ρ) κ (kcell ck))),
    bigSep_sep', ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  iapply (bigSep_with_persistent (R := records m ρ K) (Φ := linear (F := F)) fun c _ => by
    unfold G'; iintro H; iexists K; iexact H)
  isplitr
  · unfold records; isplitl; · iexact HI
    iexact HR
  · iapply (Entails.of_eq (show iprop(bigSep Finset.univ (posns (F := F)) ∗ bigSep Finset.univ fun c : Dev nD =>
        iprop(bigSep Finset.univ (tokB (F := F) c) ∗ bigSep Finset.univ (tokS (F := F) c) ∗ bigSep Finset.univ (tokR (F := F) c)))
        = bigSep Finset.univ (linear (F := F)) from by
      rw [← bigSep_sep']; exact bigSep_congr fun c _ => by unfold linear; rw [posns_eq]))
    isplitl [Hat]; · iexact Hat
    iexact Htok

/-- The global step: every device's cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barriers of different devices differ, -/
theorem bar_eq_iff {a b : Dev nD} : Iff (barCell a = barCell b) (a = b) :=
  ⟨fun h => congrArg (fun g : GSem nD τ sig => g.1.1) h, fun h => h ▸ rfl⟩
/-- as do receive cells, -/
theorem recv_eq {a b : Dev nD} {x y : Fin 3 × Fin 7} (h : recvCell a x.1 x.2 = recvCell b y.1 y.2) : a = b ∧ x = y := by
  have := kcell_injective (a₁ := (a, some (true, x))) (a₂ := (b, some (true, y))) h
  exact ⟨congrArg Prod.fst this, by injection (congrArg Prod.snd this) with h; exact congrArg Prod.snd h⟩
/-- and a receive cell is no barrier. -/
theorem recv_ne_bar (a b : Dev nD) (x : Fin 3 × Fin 7) : recvCell a x.1 x.2 ≠ barCell b := fun h => by
  have := kcell_injective (a₁ := (a, some (true, x))) (a₂ := (b, none)) h
  cases congrArg Prod.snd this

/-- What the copies leave owed, as a sum over the slots. -/
theorem owedL_sends (d : Dev nD) : owedL d sends = ∑ x : Fin 3 × Fin 7, tallyAt (recvCell (peer x.1 x.2 d) x.1 x.2) () (NN x.1) := by
  unfold owedL
  rw [← List.sum_toFinset _ (by decide +kernel : sends.Nodup), (by decide +kernel : sends.toFinset = Finset.univ)]

/-- What device `d` owes device `c`'s receive cell of a slot, -/
theorem owed_recv (d c : Dev nD) (x : Fin 3 × Fin 7) : O₀ d (recvCell c x.1 x.2) () = if d = peer x.1 x.2 c then NN x.1 else 0 := by
  have h0 : owedB d [0, 1, 2] (recvCell c x.1 x.2) () = 0 := Nat.eq_zero_of_not_pos fun h => by
    obtain ⟨a, -, e⟩ := owedB_pos h; exact recv_ne_bar _ _ x e
  unfold O₀
  rw [Pi.add_apply, Finsupp.add_apply, h0, Nat.add_zero, owedL_sends, Finset.sum_apply, Finsupp.finset_sum_apply,
    Finset.sum_eq_single x]
  · rw [tallyAt_apply]
    by_cases h : d = peer x.1 x.2 c
    · subst h; rw [peer_peer, if_pos ⟨rfl, rfl⟩, if_pos rfl]
    · rw [if_neg (fun h' => h (by rw [(recv_eq h'.1).1, peer_peer])), if_neg h]
  · intro y _ hy
    rw [tallyAt_apply, if_neg fun h' => hy (recv_eq h'.1).2.symm]
  · exact fun h => absurd (Finset.mem_univ x) h
/-- and what it owes the barrier cell. -/
theorem owed_bar (d c : Dev nD) : O₀ d (barCell c) ()
    = (if c = xr d (axis 0) then 1 else 0) + ((if c = xr d (axis 1) then 1 else 0) + (if c = xr d (axis 2) then 1 else 0)) := by
  have h0 : owedL d sends (barCell c) () = 0 := Nat.eq_zero_of_not_pos fun h => by
    obtain ⟨x, -, e⟩ := owedL_pos h; exact recv_ne_bar _ _ x e.symm
  have hb (a : Fin 3) : tallyAt (barCell (xr d (axis a))) () 1 (barCell c) () = if c = xr d (axis a) then 1 else 0 := by
    rw [tallyAt_apply]; simp only [bar_eq_iff, and_true]
  unfold O₀
  rw [Pi.add_apply, Finsupp.add_apply, h0, Nat.zero_add]
  unfold owedB
  simp only [List.map_cons, List.map_nil, List.sum_cons, List.sum_nil, add_zero, Pi.add_apply, Finsupp.add_apply, hb]

/-- The launch credits a barrier with three signals -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
/-- and a receive cell with one copy. -/
theorem launch_recv (c : Dev nD) (x : Fin 3 × Fin 7) :
    tallyOn (recvCell c x.1 x.2) (launchCredit (Pipeline.owing O₀) 0 (recvCell c x.1 x.2)) = (tallyAt (recvCell c x.1 x.2) () (NN x.1) : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ _ fun _ => NN x.1,
    if_pos (Finset.mem_univ _)]

/-- Different slots have different receive semaphores. -/
theorem rS_injective : Function.Injective fun x : Fin 3 × Fin 7 => rS x.1 x.2 := fun x y h =>
  (recv_eq (a := 0) (b := 0) (x := x) (y := y) (Prod.ext rfl h)).2

/-- The launch gives device `c` credit for its barrier cell and its receive cells. -/
theorem creds (c : Dev nD) : (Pipeline.launchCred O₀ c : sProp 𝕄) ⊢ iprop(cred (tallyAt (barCell c) () 3) ∗ bigSep Finset.univ (rCred (F := F) c)) := by
  unfold Pipeline.launchCred
  rw [bigSep_univ_at _ (SemLoc.reg barS), launch_bar]
  refine sep_mono_right ?_
  have e : (bigSep (Finset.univ.map ⟨_, rS_injective⟩) fun sm : SemLoc sig =>
      (cred (tallyOn ((c.tc : Thread nD τ), sm) (launchCredit (Pipeline.owing O₀) 0 ((c.tc : Thread nD τ), sm))) : sProp 𝕄)) = bigSep Finset.univ (rCred (F := F) c) := by
    rw [BI.bigSep_map]
    exact bigSep_congr fun x _ => congrArg cred (launch_recv c x)
  rw [← e]
  refine BI.bigSep_subset fun sm h => ?_
  obtain ⟨x, -, rfl⟩ := Finset.mem_map.mp h
  exact Finset.mem_erase.mpr ⟨fun e => recv_ne_bar 0 0 x (Prod.ext rfl e), Finset.mem_univ _⟩

/-! ## The launch's side conditions -/

/-- What the launch deals is what a device starts with; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- with its scratch buffers that is what the body holds, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq m]
  unfold Φ₀
  iintro ⟨Hs, -, Hr⟩
  isplitl [Hs]; · iexact Hs
  iexact Hr

/-- and what the body leaves gives the counters back at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq m, ownSems0_eq, unscopedSems0_eq]
  unfold Φ₁
  iintro ⟨Hr, Hz, HzB⟩
  isplitl [HzB]; · iexact HzB
  isplitl [Hz]; · iexact Hz
  iexact Hr

/-- The call may wait for its own fetches and write-backs whatever it owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What an array of device `c` holds after the run, -/
def finalA (c : Dev nD) (w : Fin cfg0.W) : Buf (Elt F) ((cfg0.win w).arr.view.loc (c : Thread nD τ)) := (dats m ρ 0 c).arrAt w cfg0.N
/-- on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- On eight devices, for any float values, from any memory with zero counters: every weakly fair execution of the kernel
    terminates, with each device's result at the computed contents, its operands unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_x (c : Dev nD) : finalA m ρ c (0 : Fin 3) = m ((c : Thread nD τ).loc main_arg0) := (dats (F := F) m ρ 0 c).arrAt_in (0 : Fin 3) rfl _
/-- and those of `dy` too. -/
theorem finalA_d (c : Dev nD) : finalA m ρ c (1 : Fin 3) = m ((c : Thread nD τ).loc main_arg1) := (dats (F := F) m ρ 0 c).arrAt_in (1 : Fin 3) rfl _

end Cert.Gemm

end
-- ==== Proof.Value.lean ====
/-
  What the kernel computes over the extended reals.

  Rounding is the identity there, so a device's contribution to one of its neighbours' rows is a plain product of two
  blocks, and the three exchanges add eight such products: the device's own, then its first neighbour's, then the two of
  the second, then the four of the third. The eight devices so named are all the devices, whichever order the group takes
  its axes in (`sum_devs`), so what a device writes is the sum of the devices' products (`outAt_apply`).
-/
module

public import proofs.«01_k».proof.Proof.Run
public import Idealize.ShloMosaic.Lib.Pointwise
public import Idealize.ShloMosaic.Lib.Layout

@[expose] public section

noncomputable section

namespace Cert.Gemm

open Cert.KernelIdeal Cert.KernelIdeal.Gen
open Idealize.ShloMosaic Idealize.ShloMosaic.TcCoe

variable (m : (ℓ : Loc nD τ sig) → Buf (Elt Ideal) ℓ) (ρ : Dev nD → PrngReg)

/-! ## The operands -/

/-- The rows of `x` that device `c` holds, -/
abbrev opX (c : Dev nD) : S1024x1024.Idx → EReal := m ((c : Thread nD τ).loc main_arg0)
/-- and those of `dy`. -/
abbrev opD (c : Dev nD) : S1024x4096.Idx → EReal := m ((c : Thread nD τ).loc main_arg1)

/-- Device `c`'s contribution to element `(i, j)` of the whole product. -/
def part (i : Fin 1024) (j : Fin 4096) (c : Dev nD) : EReal := ∑ k : Fin 1024, opX m c (ix2 k i) * opD m c (ix2 k j)

/-- The body finds the whole of the device's `x`, -/
theorem xs_eq (c : Dev nD) : xs m ρ c = opX m c :=
  Memref.read_access_unit_zero (Elt Ideal) main_arg0
    (show (fun a => (win0_0.index t0_0) a * main_arg0.ty.shape.size a) = fun _ => 0 from
      funext fun a => by fin_cases a <;> decide) (fun a => by fin_cases a <;> decide) _
/-- and of its `dy`. -/
theorem ds_eq (c : Dev nD) : ds m ρ c = opD m c :=
  Memref.read_access_unit_zero (Elt Ideal) main_arg1
    (show (fun a => (win0_1.index t0_0) a * main_arg1.ty.shape.size a) = fun _ => 0 from
      funext fun a => by fin_cases a <;> decide) (fun a => by fin_cases a <;> decide) _

/-- Row `r` of device `q`'s chunk is this row of the whole product, -/
def rowOf (q : Dev nD) (r : Fin 128) : Fin 1024 := ⟨q.val * 128 + r.val, by have := q.isLt; have : nD = 8 := rfl; omega⟩
/-- and column `l` of group `g` this column. -/
def colOf (g : Fin 3) (l : Fin (wd g)) : Fin 4096 := ⟨col g + l.val, by have := l.isLt; revert this; match g with | 0 | 1 | 2 => simp only [col, wd]; omega⟩

theorem xt_apply (c q : Dev nD) (k : Fin 1024) (r : Fin 128) : xt m ρ c q (ix2 k r) = opX m c (ix2 k (rowOf q r)) := by
  unfold xt
  rw [xs_eq, View.readAt_apply]
  refine congrArg (opX m c) ?_
  funext a
  match a with
  | 0 => exact Fin.ext (by show 0 + 1 * k.val = k.val; omega)
  | 1 => exact Fin.ext (by show 128 * q.val + 1 * r.val = q.val * 128 + r.val; omega)
theorem dt_apply (c : Dev nD) (g : Fin 3) (k : Fin 1024) (l : Fin (wd g)) : dt m ρ c g (ix2 k l) = opD m c (ix2 k (colOf g l)) := by
  unfold dt
  rw [ds_eq, View.readAt_apply]
  refine congrArg (opD m c) ?_
  funext a
  match a with
  | 0 => exact Fin.ext (by show 0 + 1 * k.val = k.val; omega)
  | 1 => exact Fin.ext (by show col g + 1 * l.val = col g + l.val; omega)

/-! ## The body's arithmetic -/

/-- A device's product of two blocks, at an element, -/
theorem mmPay_apply (g : Fin 3) (x : Vec Ideal S1024x128 .bf16) (y : Vec Ideal (SD g) .bf16) (r : Fin 128) (l : Fin (wd g)) :
    mmPay (F := Ideal) g x y (ix2 r l) = ∑ k : Fin 1024, (x (ix2 k r) * y (ix2 k l) : EReal) := by
  match g with
  | 0 | 1 | 2 =>
    unfold mmPay dotG
    pointwise

/-- and the sum of two chunks, -/
theorem addPay_apply (g : Fin 3) (a b : FVec Ideal (SB g) .bf16) : addPay g a b = fun i => (a i + b i : EReal) := rfl
/-- rounded or not. -/
theorem foldPay_apply (g : Fin 3) (a b : FVec Ideal (SB g) .bf16) : foldPay g a b = fun i => (a i + b i : EReal) := by
  unfold foldPay
  exact shapeCast_id _ _

/-- A device, its first neighbour, the two of its second and the four of its third, are the devices. -/
theorem sum_devs (g : Fin 3) (c : Dev nD) (f : Dev nD → EReal) :
    ((f c + f (xr c (axis (ax g 0)))) + (f (xr c (axis (ax g 1))) + f (xr (xr c (axis (ax g 1))) (axis (ax g 0)))))
      + ((f (xr c (axis (ax g 2))) + f (xr (xr c (axis (ax g 2))) (axis (ax g 0))))
        + (f (xr (xr c (axis (ax g 2))) (axis (ax g 1))) + f (xr (xr (xr c (axis (ax g 2))) (axis (ax g 1))) (axis (ax g 0)))))
      = ∑ d, f d := by
  have h : ∀ (g : Fin 3) (c : Dev nD), ([c, xr c (axis (ax g 0)), xr c (axis (ax g 1)), xr (xr c (axis (ax g 1))) (axis (ax g 0)),
      xr c (axis (ax g 2)), xr (xr c (axis (ax g 2))) (axis (ax g 0)), xr (xr c (axis (ax g 2))) (axis (ax g 1)),
      xr (xr (xr c (axis (ax g 2))) (axis (ax g 1))) (axis (ax g 0))] : List (Dev nD)).Nodup
      ∧ ([c, xr c (axis (ax g 0)), xr c (axis (ax g 1)), xr (xr c (axis (ax g 1))) (axis (ax g 0)),
      xr c (axis (ax g 2)), xr (xr c (axis (ax g 2))) (axis (ax g 0)), xr (xr c (axis (ax g 2))) (axis (ax g 1)),
      xr (xr (xr c (axis (ax g 2))) (axis (ax g 1))) (axis (ax g 0))] : List (Dev nD)).toFinset = Finset.univ := by decide +kernel
  rw [← (h g c).2, List.sum_toFinset f (h g c).1]
  simp only [List.map_cons, List.map_nil, List.sum_cons, List.sum_nil, add_zero, add_assoc]

theorem V0_apply (g : Fin 3) (q c : Dev nD) (r : Fin 128) (l : Fin (wd g)) :
    V0 m ρ g q c (ix2 r l) = part m (rowOf q r) (colOf g l) c :=
  (mmPay_apply g _ _ r l).trans (Finset.sum_congr rfl fun k _ => by rw [xt_apply, dt_apply])

/-- What device `c` writes of column group `g` is the sum of the devices' products. -/
theorem res_apply (c : Dev nD) (g : Fin 3) (r : Fin 128) (l : Fin (wd g)) :
    res m ρ c g (ix2 r l) = ∑ d, part m (rowOf c r) (colOf g l) d := by
  rw [← sum_devs g c]
  simp only [← V0_apply m ρ]
  unfold res
  simp only [addPay_apply, V, V2, V1, foldPay_apply]

/-! ## The result -/

/-- A store of a group leaves its columns at what is stored. -/
theorem write_at {g : Fin 3} (c : Dev nD) (f : (cc0_stg2_0 : Ref sig .tc).ty.Contents (Elt Ideal)) {r : Fin 128} {j : Fin 4096}
    (h : (ix2 r j : S128x4096.Idx) ∈ (oR g).set) :
    ((oM.access (oR g)).write (Elt Ideal) f (res m ρ c g) Finset.univ) (ix2 r j) = ∑ d, part m (rowOf c r) j d := by
  have h1 := Rect.mem_set_unit.mp h 1
  have h2 : col g ≤ j.val := h1.1
  have h3 : j.val < col g + wd g := h1.2
  obtain ⟨l, rfl⟩ : ∃ l : Fin (wd g), j = colOf g l :=
    ⟨⟨j.val - col g, by omega⟩, Fin.ext (by show j.val = col g + (j.val - col g); omega)⟩
  have e : (oM.access (oR g)).emb (ix2 r l) = ix2 r (colOf g l) := by
    funext a
    match a with
    | 0 => exact Fin.ext (by show 0 + 1 * r.val = r.val; omega)
    | 1 => exact Fin.ext (by show col g + 1 * l.val = col g + l.val; omega)
  rw [← res_apply m ρ, ← e]
  exact View.write_emb_of_mem (v := oM.access (oR g)) f (res m ρ c g) (Finset.mem_univ (ix2 r l))

/-- What the kernel writes on device `c`: rows `128c` to `128c + 127` of the sum of the devices' products. -/
theorem outAt_apply (c : Dev nD) (r : Fin 128) (j : Fin 4096) : outAt m ρ c (ix2 r j) = ∑ d, part m (rowOf c r) j d := by
  unfold outAt outW
  by_cases h2 : (ix2 r j : S128x4096.Idx) ∈ (oR 2).set
  · exact write_at m ρ c _ h2
  rw [write_out _ _ h2]
  by_cases h1 : (ix2 r j : S128x4096.Idx) ∈ (oR 1).set
  · exact write_at m ρ c _ h1
  rw [write_out _ _ h1]
  rcases oR_cover (ix2 r j) with h | h | h
  · exact write_at m ρ c _ h
  · exact absurd h h1
  · exact absurd h h2

/-- The result's array after the run holds what the body wrote. -/
theorem finalA_o (c : Dev nD) : finalA m ρ c (2 : Fin 3) = outAt m ρ c := by
  have h : (win0_2.blk t0_0).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt Ideal) main_v1
    (show (fun a => (win0_2.index t0_0) a * main_v1.ty.shape.size a) = fun _ => 0 from
      funext fun a => by fin_cases a <;> decide) (fun a => by fin_cases a <;> decide) _).symm

end Cert.Gemm

end
-- ==== Proof.Equal.lean ====
/-
  The kernel's result and the reference's are one array, over the extended reals.

  The reference contracts the 8192 rows of its two operands. Those rows are the eight devices' blocks of 1024, one after
  another, so the contraction is the sum over the devices of their products (`sum_rows`), which is what the kernel writes.
-/
module

public import proofs.«01_k».proof.Proof.Value
public import proofs.«01_k».proof.Proof.Gen.ReferenceIdeal.Run

@[expose] public section

noncomputable section

namespace Cert.Gemm

open Cert.KernelIdeal Cert.KernelIdeal.Gen
open Idealize.ShloMosaic Idealize.ShloMosaic.TcCoe

/-- The reference's result, of its two operands. -/
abbrev refOut (X : FVec Ideal Cert.ReferenceIdeal.S8192x1024 .bf16) (D : FVec Ideal Cert.ReferenceIdeal.S8192x4096 .bf16) :
    FVec Ideal Cert.ReferenceIdeal.S1024x4096 .f32 :=
  extf .f32 (truncf .bf16 (Host.dotGeneral Cert.ReferenceIdeal.dot_S1024x8192_S8192x4096_S1024x4096_1_0_0_1_n_n none
    (transpose Cert.ReferenceIdeal.S1024x8192 [1, 0] X Cert.ReferenceIdeal.Gen.transposes_S8192x1024_S1024x8192_1_0) D)
    Cert.ReferenceIdeal.Gen.bitsLt_bf16_f32) Cert.ReferenceIdeal.Gen.bitsLt_bf16_f32

/-- An element of it is a sum of products down two columns. -/
theorem refOut_apply (X : FVec Ideal Cert.ReferenceIdeal.S8192x1024 .bf16) (D : FVec Ideal Cert.ReferenceIdeal.S8192x4096 .bf16)
    (i : Fin 1024) (j : Fin 4096) : refOut X D (ix2 i j) = ∑ k : Fin 8192, (X (ix2 k i) * D (ix2 k j) : EReal) := by
  pointwise [refOut]

/-- Row `k` of device `d`'s block is this row of the whole operand. -/
def rowIn (d : Dev nD) (k : Fin 1024) : Fin 8192 := ⟨d.val * 1024 + k.val, by have := d.isLt; have : nD = 8 := rfl; omega⟩

/-- A sum over the rows is the sum over the devices of the sums over their rows. -/
theorem sum_rows (f : Fin 8192 → EReal) : ∑ k, f k = ∑ d : Dev nD, ∑ k : Fin 1024, f (rowIn d k) := by
  rw [← Fintype.sum_prod_type' (fun (d : Dev nD) (k : Fin 1024) => f (rowIn d k))]
  refine (Fintype.sum_equiv (finProdFinEquiv (m := 8) (n := 1024)) _ f fun x => congrArg f (Fin.ext ?_)).symm
  show x.1.val * 1024 + x.2.val = x.2.val + 1024 * x.1.val
  omega

/-- If each device holds its rows of the reference's operands, then its result after the run is its rows of the reference's. -/
theorem finalA_eq (m : (ℓ : Loc nD τ sig) → Buf (Elt Ideal) ℓ) (ρ : Dev nD → PrngReg)
    (X : FVec Ideal Cert.ReferenceIdeal.S8192x1024 .bf16) (D : FVec Ideal Cert.ReferenceIdeal.S8192x4096 .bf16)
    (hX : ∀ c : Dev nD, opX m c = Layout.block ⟨2, ![1024, 1024]⟩ ⟨2, ![8192, 1024]⟩ 0 8 c X)
    (hD : ∀ c : Dev nD, opD m c = Layout.block ⟨2, ![1024, 4096]⟩ ⟨2, ![8192, 4096]⟩ 0 8 c D) (c : Dev nD) :
    finalA m ρ c (2 : Fin 3) = Layout.block ⟨2, ![128, 4096]⟩ ⟨2, ![1024, 4096]⟩ 0 8 c (refOut X D) := by
  rw [finalA_o]
  funext i
  obtain ⟨r, j, rfl⟩ : ∃ (r : Fin 128) (j : Fin 4096), i = ix2 r j := ⟨i 0, i 1, eq_ix2 i⟩
  have e : ∀ h : Layout.Tiles ⟨2, ![128, 4096]⟩ ⟨2, ![1024, 4096]⟩ 0 8, h.idx c (ix2 r j) = ix2 (rowOf c r) j :=
    fun h => (eq_ix2 _).trans (congrArg₂ ix2 (Fin.ext rfl) (Fin.ext rfl))
  have ex : ∀ (h : Layout.Tiles ⟨2, ![1024, 1024]⟩ ⟨2, ![8192, 1024]⟩ 0 8) (d : Dev nD) (k : Fin 1024) (l : Fin 1024),
      h.idx d (ix2 k l) = ix2 (rowIn d k) l := fun h d k l => (eq_ix2 _).trans (congrArg₂ ix2 (Fin.ext rfl) (Fin.ext rfl))
  have ed : ∀ (h : Layout.Tiles ⟨2, ![1024, 4096]⟩ ⟨2, ![8192, 4096]⟩ 0 8) (d : Dev nD) (k : Fin 1024) (l : Fin 4096),
      h.idx d (ix2 k l) = ix2 (rowIn d k) l := fun h d k l => (eq_ix2 _).trans (congrArg₂ ix2 (Fin.ext rfl) (Fin.ext rfl))
  have key : (∑ d, part m (rowOf c r) j d) = refOut X D (ix2 (rowOf c r) j) := by
    rw [refOut_apply, sum_rows]
    refine Finset.sum_congr rfl fun d _ => Finset.sum_congr rfl fun k _ => ?_
    rw [hX, hD, Layout.block_apply, Layout.block_apply, ex, ed]
  exact (outAt_apply m ρ c r j).trans (key.trans (congrArg (refOut X D) (e _).symm))

end Cert.Gemm

end
-- ==== Proof.lean ====
module

public import proofs.«01_k».proof.Defs
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel terminates, for any float values, with its operands unchanged and every semaphore counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (Cert.Gemm.finalA_x m ρ c), (h.1 c (1 : Fin 3)).trans (Cert.Gemm.finalA_d m ρ c)⟩, h.2⟩)
    (Cert.Gemm.run_main m ρ)

/-- So does its idealization. -/
theorem frame_kernelIdeal : Cert.quiescent_KernelIdeal := fun m ρ _ => frame_any (F := Ideal) m ρ

/-- The kernel as compiled and its idealization have one text, so one table of bodies, -/
theorem defs₀_same {F : FTy → Type} [FloatOps F] : Cert.Kernel.defs₀ (F := F) = Cert.KernelIdeal.defs₀ := by
  unfold Cert.Kernel.defs₀ Cert.KernelIdeal.defs₀
  refine congrArg Defs.onTc ?_
  funext l p
  match l, p with
  | 0, (t, s) => rfl
theorem defs_same {F : FTy → Type} [FloatOps F] : Cert.Kernel.defs (F := F) = Cert.KernelIdeal.defs :=
  congrArg (Pipeline.defs Cert.Kernel.pcfgs) defs₀_same

/-- and the kernel as compiled runs likewise. -/
theorem frame_kernel : Cert.quiescent_Kernel := fun m ρ _ => by
  rw [defs_same]; exact frame_any (F := Bits) m ρ

/-- So does the reference. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From operands that are the devices' rows of the reference's, the kernel leaves each device its rows of the reference's result,
    over the extended reals; both leave their operands as they were. -/
theorem algebraic : Cert.algebraic_KernelIdeal_ReferenceIdeal := fun m g m' g' _ hag =>
  ⟨Cert.Gemm.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans (Cert.Gemm.finalA_eq m g _ _ (fun d => (hag d).1) (fun d => (hag d).2) c),
        (h.1 c (0 : Fin 3)).trans (Cert.Gemm.finalA_x m g c), (h.1 c (1 : Fin 3)).trans (Cert.Gemm.finalA_d m g c)⟩)
      (Cert.Gemm.run_main (F := Ideal) m g),
    (θ_run Cert.ReferenceIdeal.defs _ _).mono (fun _ h => h 0) (Cert.ReferenceIdeal.Value.run (F := Ideal) m' g')⟩

/-- Everything the certificate states. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
